-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_v10) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x3202x2560 : Shape := ⟨3, ![12, 3202, 2560]⟩
abbrev S12x3202 : Shape := ⟨2, ![12, 3202]⟩
abbrev S8x2560x4x160 : Shape := ⟨4, ![8, 2560, 4, 160]⟩
abbrev S8x4x160 : Shape := ⟨3, ![8, 4, 160]⟩
abbrev S8x160 : Shape := ⟨2, ![8, 160]⟩
abbrev S12x2x2560 : Shape := ⟨3, ![12, 2, 2560]⟩
abbrev S12x3204x2560 : Shape := ⟨3, ![12, 3204, 2560]⟩
abbrev S8x4x160x2560 : Shape := ⟨4, ![8, 4, 160, 2560]⟩
abbrev S5120x2560 : Shape := ⟨2, ![5120, 2560]⟩
abbrev S8x12x4x160x3202 : Shape := ⟨5, ![8, 12, 4, 160, 3202]⟩
abbrev S8x12x4x3202 : Shape := ⟨4, ![8, 12, 4, 3202]⟩
abbrev S1x256x2560 : Shape := ⟨3, ![1, 256, 2560]⟩
abbrev S12x256 : Shape := ⟨2, ![12, 256]⟩
abbrev S8x1x4x160x256 : Shape := ⟨5, ![8, 1, 4, 160, 256]⟩
abbrev S8x1x4x256 : Shape := ⟨4, ![8, 1, 4, 256]⟩
abbrev S8x4x160x128 : Shape := ⟨4, ![8, 4, 160, 128]⟩
abbrev S8x160x128 : Shape := ⟨3, ![8, 160, 128]⟩
abbrev S1x160 : Shape := ⟨2, ![1, 160]⟩
abbrev S128x160 : Shape := ⟨2, ![128, 160]⟩
abbrev S160x128 : Shape := ⟨2, ![160, 128]⟩
abbrev S1x160x128 : Shape := ⟨3, ![1, 160, 128]⟩
abbrev S1x1x160 : Shape := ⟨3, ![1, 1, 160]⟩
abbrev S1x1x160x128 : Shape := ⟨4, ![1, 1, 160, 128]⟩
abbrev S256x2560 : Shape := ⟨2, ![256, 2560]⟩
abbrev S1x256 : Shape := ⟨2, ![1, 256]⟩
abbrev S640x2560 : Shape := ⟨2, ![640, 2560]⟩
abbrev S640x256 : Shape := ⟨2, ![640, 256]⟩
abbrev S1x128 : Shape := ⟨2, ![1, 128]⟩
abbrev S128 : Shape := ⟨1, ![128]⟩
abbrev S252x128 : Shape := ⟨2, ![252, 128]⟩
abbrev S1x1x1x160x128 : Shape := ⟨5, ![1, 1, 1, 160, 128]⟩
abbrev S1x1x1x128 : Shape := ⟨4, ![1, 1, 1, 128]⟩
abbrev S8x12x3202x4x160 : Shape := ⟨5, ![8, 12, 3202, 4, 160]⟩
abbrev S8x12x3202x4 : Shape := ⟨4, ![8, 12, 3202, 4]⟩

abbrev nBuf : Space → Nat
  | .hbm => 21
  | .vmem => 20
  | .smem => 0
  | _ => 0

abbrev bufTy : (tb : Table) → Fin (tcTables nBuf tb) → BufTy
  | .hbm, ⟨0, _⟩ => ⟨S12x3202x2560, .fp8e4m3⟩
  | .hbm, ⟨1, _⟩ => ⟨S12x3202, .f32⟩
  | .hbm, ⟨2, _⟩ => ⟨S8x2560x4x160, .fp8e4m3⟩
  | .hbm, ⟨3, _⟩ => ⟨S8x4x160, .f32⟩
  | .hbm, ⟨4, _⟩ => ⟨S8x2560x4x160, .fp8e4m3⟩
  | .hbm, ⟨5, _⟩ => ⟨S8x4x160, .f32⟩
  | .hbm, ⟨6, _⟩ => ⟨S8x160, .f32⟩
  | .hbm, ⟨7, _⟩ => ⟨S12x2x2560, .fp8e4m3⟩
  | .hbm, ⟨8, _⟩ => ⟨S12x3204x2560, .fp8e4m3⟩
  | .hbm, ⟨9, _⟩ => ⟨S8x4x160x2560, .fp8e4m3⟩
  | .hbm, ⟨10, _⟩ => ⟨S5120x2560, .fp8e4m3⟩
  | .hbm, ⟨11, _⟩ => ⟨S8x4x160x2560, .fp8e4m3⟩
  | .hbm, ⟨12, _⟩ => ⟨S5120x2560, .fp8e4m3⟩
  | .hbm, ⟨13, _⟩ => ⟨S8x12x4x160x3202, .fp8e4m3⟩
  | .hbm, ⟨14, _⟩ => ⟨S8x12x4x3202, .f32⟩
  | .hbm, ⟨15, _⟩ => ⟨S8x12x4x160x3202, .fp8e4m3⟩
  | .hbm, ⟨16, _⟩ => ⟨S8x12x4x3202, .f32⟩
  | .hbm, ⟨17, _⟩ => ⟨S8x12x3202x4x160, .fp8e4m3⟩
  | .hbm, ⟨18, _⟩ => ⟨S8x12x3202x4, .f32⟩
  | .hbm, ⟨19, _⟩ => ⟨S8x12x3202x4x160, .fp8e4m3⟩
  | .hbm, ⟨20, _⟩ => ⟨S8x12x3202x4, .f32⟩
  | .local _ .vmem, ⟨0, _⟩ => ⟨S1x256x2560, .fp8e4m3⟩
  | .local _ .vmem, ⟨1, _⟩ => ⟨S1x256x2560, .fp8e4m3⟩
  | .local _ .vmem, ⟨2, _⟩ => ⟨S12x256, .f32⟩
  | .local _ .vmem, ⟨3, _⟩ => ⟨S12x256, .f32⟩
  | .local _ .vmem, ⟨4, _⟩ => ⟨S5120x2560, .fp8e4m3⟩
  | .local _ .vmem, ⟨5, _⟩ => ⟨S5120x2560, .fp8e4m3⟩
  | .local _ .vmem, ⟨6, _⟩ => ⟨S8x4x160, .f32⟩
  | .local _ .vmem, ⟨7, _⟩ => ⟨S8x4x160, .f32⟩
  | .local _ .vmem, ⟨8, _⟩ => ⟨S8x160, .f32⟩
  | .local _ .vmem, ⟨9, _⟩ => ⟨S8x1x4x160x256, .fp8e4m3⟩
  | .local _ .vmem, ⟨10, _⟩ => ⟨S8x1x4x160x256, .fp8e4m3⟩
  | .local _ .vmem, ⟨11, _⟩ => ⟨S8x1x4x256, .f32⟩
  | .local _ .vmem, ⟨12, _⟩ => ⟨S8x1x4x256, .f32⟩
  | .local _ .vmem, ⟨13, _⟩ => ⟨S8x1x4x160x256, .fp8e4m3⟩
  | .local _ .vmem, ⟨14, _⟩ => ⟨S8x1x4x160x256, .fp8e4m3⟩
  | .local _ .vmem, ⟨15, _⟩ => ⟨S8x1x4x256, .f32⟩
  | .local _ .vmem, ⟨16, _⟩ => ⟨S8x1x4x256, .f32⟩
  | .local _ .vmem, ⟨17, _⟩ => ⟨S8x4x160x128, .f32⟩
  | .local _ .vmem, ⟨18, _⟩ => ⟨S8x4x160x128, .f32⟩
  | .local _ .vmem, ⟨19, _⟩ => ⟨S8x160x128, .f32⟩
  | _, _ => ⟨S12x3202x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![12, 13], ![false, false]⟩

def k0_off1 (i : grid0.Coords) : Fin 2 → Nat :=
  let arg0 : BitVec 32 := BitVec.ofNat 32 (i 0).val
  let v7 : Index := Scalar.indexCast arg0
  let c0_4 : Index := 0#32
  ![v7.toNat, 0]
@[reducible] def k0_t1_loop : Scf.Loop 32 :=
  let c0_i32_5 : BitVec 32 := 0#32
  let c8_i32 : BitVec 32 := 8#32
  let v9 : BitVec 32 := Scalar.addi c0_i32_5 c8_i32
  let c1_i32 : BitVec 32 := 1#32
  ⟨c0_i32_5, v9, c1_i32⟩
def k0_off2 (k0_t1 : Fin k0_t1_loop.trips) : Fin 2 → Nat :=
  let c0_i32_5 : BitVec 32 := 0#32
  let c1_i32 : BitVec 32 := 1#32
  let arg16 : BitVec 32 := Scf.iv c0_i32_5 c1_i32 k0_t1
  let c4_i32 : BitVec 32 := 4#32
  let v10 : BitVec 32 := Scalar.muli arg16 c4_i32
  let c160_i32 : BitVec 32 := 160#32
  let v11 : BitVec 32 := Scalar.muli v10 c160_i32
  let v12 : Index := Scalar.indexCast v11
  let c0_7 : Index := 0#32
  ![v12.toNat, 0]
def k0_off3 (k0_t1 : Fin k0_t1_loop.trips) : Fin 4 → Nat :=
  let c0_i32_5 : BitVec 32 := 0#32
  let c1_i32 : BitVec 32 := 1#32
  let arg16 : BitVec 32 := Scf.iv c0_i32_5 c1_i32 k0_t1
  let v26 : Index := Scalar.indexCast arg16
  let c0_12 : Index := 0#32
  let c0_13 : Index := 0#32
  let c0_14 : Index := 0#32
  ![v26.toNat, 0, 0, 0]
def k0_off4 (k0_t1 : Fin k0_t1_loop.trips) : Fin 3 → Nat :=
  let c0_i32_5 : BitVec 32 := 0#32
  let c1_i32 : BitVec 32 := 1#32
  let arg16 : BitVec 32 := Scf.iv c0_i32_5 c1_i32 k0_t1
  let v40 : Index := Scalar.indexCast arg16
  let c0_18 : Index := 0#32
  let c0_19 : Index := 0#32
  ![v40.toNat, 0, 0]
def k0_off5 (k0_t1 : Fin k0_t1_loop.trips) : Fin 5 → Nat :=
  let c0_i32_5 : BitVec 32 := 0#32
  let c1_i32 : BitVec 32 := 1#32
  let arg16 : BitVec 32 := Scf.iv c0_i32_5 c1_i32 k0_t1
  let v87 : Index := Scalar.indexCast arg16
  let c0_33 : Index := 0#32
  let c0_34 : Index := 0#32
  let c0_35 : Index := 0#32
  let c0_36 : Index := 0#32
  ![v87.toNat, 0, 0, 0, 0]
def k0_off6 (k0_t1 : Fin k0_t1_loop.trips) : Fin 4 → Nat :=
  let c0_i32_5 : BitVec 32 := 0#32
  let c1_i32 : BitVec 32 := 1#32
  let arg16 : BitVec 32 := Scf.iv c0_i32_5 c1_i32 k0_t1
  let v91 : Index := Scalar.indexCast arg16
  let c0_37 : Index := 0#32
  let c0_38 : Index := 0#32
  let c0_39 : Index := 0#32
  ![v91.toNat, 0, 0, 0]
def k0_off7 (k0_t1 : Fin k0_t1_loop.trips) : Fin 5 → Nat :=
  let c0_i32_5 : BitVec 32 := 0#32
  let c1_i32 : BitVec 32 := 1#32
  let arg16 : BitVec 32 := Scf.iv c0_i32_5 c1_i32 k0_t1
  let v218 : Index := Scalar.indexCast arg16
  let c0_90 : Index := 0#32
  let c0_91 : Index := 0#32
  let c0_92 : Index := 0#32
  let c128 : Index := 128#32
  ![v218.toNat, 0, 0, 0, 128]
def k0_off8 (k0_t1 : Fin k0_t1_loop.trips) : Fin 4 → Nat :=
  let c0_i32_5 : BitVec 32 := 0#32
  let c1_i32 : BitVec 32 := 1#32
  let arg16 : BitVec 32 := Scf.iv c0_i32_5 c1_i32 k0_t1
  let v222 : Index := Scalar.indexCast arg16
  let c0_93 : Index := 0#32
  let c0_94 : Index := 0#32
  let c128_95 : Index := 128#32
  ![v222.toNat, 0, 0, 128]
def k0_off9 (k0_t1 : Fin k0_t1_loop.trips) : Fin 4 → Nat :=
  let c0_i32_5 : BitVec 32 := 0#32
  let c1_i32 : BitVec 32 := 1#32
  let arg16 : BitVec 32 := Scf.iv c0_i32_5 c1_i32 k0_t1
  let v288 : Index := Scalar.indexCast arg16
  let c1 : Index := 1#32
  let c0_122 : Index := 0#32
  let c0_123 : Index := 0#32
  ![v288.toNat, 1, 0, 0]
def k0_off10 (k0_t1 : Fin k0_t1_loop.trips) : Fin 5 → Nat :=
  let c0_i32_5 : BitVec 32 := 0#32
  let c1_i32 : BitVec 32 := 1#32
  let arg16 : BitVec 32 := Scf.iv c0_i32_5 c1_i32 k0_t1
  let v349 : Index := Scalar.indexCast arg16
  let c0_145 : Index := 0#32
  let c1_146 : Index := 1#32
  let c0_147 : Index := 0#32
  let c0_148 : Index := 0#32
  ![v349.toNat, 0, 1, 0, 0]
def k0_off11 (k0_t1 : Fin k0_t1_loop.trips) : Fin 4 → Nat :=
  let c0_i32_5 : BitVec 32 := 0#32
  let c1_i32 : BitVec 32 := 1#32
  let arg16 : BitVec 32 := Scf.iv c0_i32_5 c1_i32 k0_t1
  let v353 : Index := Scalar.indexCast arg16
  let c0_149 : Index := 0#32
  let c1_150 : Index := 1#32
  let c0_151 : Index := 0#32
  ![v353.toNat, 0, 1, 0]
def k0_off12 (k0_t1 : Fin k0_t1_loop.trips) : Fin 5 → Nat :=
  let c0_i32_5 : BitVec 32 := 0#32
  let c1_i32 : BitVec 32 := 1#32
  let arg16 : BitVec 32 := Scf.iv c0_i32_5 c1_i32 k0_t1
  let v480 : Index := Scalar.indexCast arg16
  let c0_202 : Index := 0#32
  let c1_203 : Index := 1#32
  let c0_204 : Index := 0#32
  let c128_205 : Index := 128#32
  ![v480.toNat, 0, 1, 0, 128]
def k0_off13 (k0_t1 : Fin k0_t1_loop.trips) : Fin 4 → Nat :=
  let c0_i32_5 : BitVec 32 := 0#32
  let c1_i32 : BitVec 32 := 1#32
  let arg16 : BitVec 32 := Scf.iv c0_i32_5 c1_i32 k0_t1
  let v484 : Index := Scalar.indexCast arg16
  let c0_206 : Index := 0#32
  let c1_207 : Index := 1#32
  let c128_208 : Index := 128#32
  ![v484.toNat, 0, 1, 128]
def k0_off14 (k0_t1 : Fin k0_t1_loop.trips) : Fin 4 → Nat :=
  let c0_i32_5 : BitVec 32 := 0#32
  let c1_i32 : BitVec 32 := 1#32
  let arg16 : BitVec 32 := Scf.iv c0_i32_5 c1_i32 k0_t1
  let v550 : Index := Scalar.indexCast arg16
  let c2 : Index := 2#32
  let c0_235 : Index := 0#32
  let c0_236 : Index := 0#32
  ![v550.toNat, 2, 0, 0]
def k0_off15 (k0_t1 : Fin k0_t1_loop.trips) : Fin 5 → Nat :=
  let c0_i32_5 : BitVec 32 := 0#32
  let c1_i32 : BitVec 32 := 1#32
  let arg16 : BitVec 32 := Scf.iv c0_i32_5 c1_i32 k0_t1
  let v611 : Index := Scalar.indexCast arg16
  let c0_258 : Index := 0#32
  let c2_259 : Index := 2#32
  let c0_260 : Index := 0#32
  let c0_261 : Index := 0#32
  ![v611.toNat, 0, 2, 0, 0]
def k0_off16 (k0_t1 : Fin k0_t1_loop.trips) : Fin 4 → Nat :=
  let c0_i32_5 : BitVec 32 := 0#32
  let c1_i32 : BitVec 32 := 1#32
  let arg16 : BitVec 32 := Scf.iv c0_i32_5 c1_i32 k0_t1
  let v615 : Index := Scalar.indexCast arg16
  let c0_262 : Index := 0#32
  let c2_263 : Index := 2#32
  let c0_264 : Index := 0#32
  ![v615.toNat, 0, 2, 0]
def k0_off17 (k0_t1 : Fin k0_t1_loop.trips) : Fin 5 → Nat :=
  let c0_i32_5 : BitVec 32 := 0#32
  let c1_i32 : BitVec 32 := 1#32
  let arg16 : BitVec 32 := Scf.iv c0_i32_5 c1_i32 k0_t1
  let v742 : Index := Scalar.indexCast arg16
  let c0_315 : Index := 0#32
  let c2_316 : Index := 2#32
  let c0_317 : Index := 0#32
  let c128_318 : Index := 128#32
  ![v742.toNat, 0, 2, 0, 128]
def k0_off18 (k0_t1 : Fin k0_t1_loop.trips) : Fin 4 → Nat :=
  let c0_i32_5 : BitVec 32 := 0#32
  let c1_i32 : BitVec 32 := 1#32
  let arg16 : BitVec 32 := Scf.iv c0_i32_5 c1_i32 k0_t1
  let v746 : Index := Scalar.indexCast arg16
  let c0_319 : Index := 0#32
  let c2_320 : Index := 2#32
  let c128_321 : Index := 128#32
  ![v746.toNat, 0, 2, 128]
def k0_off19 (k0_t1 : Fin k0_t1_loop.trips) : Fin 4 → Nat :=
  let c0_i32_5 : BitVec 32 := 0#32
  let c1_i32 : BitVec 32 := 1#32
  let arg16 : BitVec 32 := Scf.iv c0_i32_5 c1_i32 k0_t1
  let v812 : Index := Scalar.indexCast arg16
  let c3 : Index := 3#32
  let c0_348 : Index := 0#32
  let c0_349 : Index := 0#32
  ![v812.toNat, 3, 0, 0]
def k0_off20 (k0_t1 : Fin k0_t1_loop.trips) : Fin 5 → Nat :=
  let c0_i32_5 : BitVec 32 := 0#32
  let c1_i32 : BitVec 32 := 1#32
  let arg16 : BitVec 32 := Scf.iv c0_i32_5 c1_i32 k0_t1
  let v873 : Index := Scalar.indexCast arg16
  let c0_371 : Index := 0#32
  let c3_372 : Index := 3#32
  let c0_373 : Index := 0#32
  let c0_374 : Index := 0#32
  ![v873.toNat, 0, 3, 0, 0]
def k0_off21 (k0_t1 : Fin k0_t1_loop.trips) : Fin 4 → Nat :=
  let c0_i32_5 : BitVec 32 := 0#32
  let c1_i32 : BitVec 32 := 1#32
  let arg16 : BitVec 32 := Scf.iv c0_i32_5 c1_i32 k0_t1
  let v877 : Index := Scalar.indexCast arg16
  let c0_375 : Index := 0#32
  let c3_376 : Index := 3#32
  let c0_377 : Index := 0#32
  ![v877.toNat, 0, 3, 0]
def k0_off22 (k0_t1 : Fin k0_t1_loop.trips) : Fin 5 → Nat :=
  let c0_i32_5 : BitVec 32 := 0#32
  let c1_i32 : BitVec 32 := 1#32
  let arg16 : BitVec 32 := Scf.iv c0_i32_5 c1_i32 k0_t1
  let v1004 : Index := Scalar.indexCast arg16
  let c0_428 : Index := 0#32
  let c3_429 : Index := 3#32
  let c0_430 : Index := 0#32
  let c128_431 : Index := 128#32
  ![v1004.toNat, 0, 3, 0, 128]
def k0_off23 (k0_t1 : Fin k0_t1_loop.trips) : Fin 4 → Nat :=
  let c0_i32_5 : BitVec 32 := 0#32
  let c1_i32 : BitVec 32 := 1#32
  let arg16 : BitVec 32 := Scf.iv c0_i32_5 c1_i32 k0_t1
  let v1008 : Index := Scalar.indexCast arg16
  let c0_432 : Index := 0#32
  let c3_433 : Index := 3#32
  let c128_434 : Index := 128#32
  ![v1008.toNat, 0, 3, 128]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 2 → Memref sig .tc .vmem S1x256x2560 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S12x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S5120x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S5120x2560 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x4x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x4x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x1x4x160x256 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x1x4x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x1x4x160x256 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x1x4x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S12x3202x2560 : Shape := ⟨3, ![12, 3202, 2560]⟩
abbrev S12x3202 : Shape := ⟨2, ![12, 3202]⟩
abbrev S8x2560x4x160 : Shape := ⟨4, ![8, 2560, 4, 160]⟩
abbrev S8x4x160 : Shape := ⟨3, ![8, 4, 160]⟩
abbrev S8x160 : Shape := ⟨2, ![8, 160]⟩
abbrev S2560x8x4x160 : Shape := ⟨4, ![2560, 8, 4, 160]⟩
abbrev S2560x5120 : Shape := ⟨2, ![2560, 5120]⟩
abbrev S12x3202x8x4x160 : Shape := ⟨5, ![12, 3202, 8, 4, 160]⟩
abbrev S12x3202x8x4x1 : Shape := ⟨5, ![12, 3202, 8, 4, 1]⟩
abbrev S12x3202x5120 : Shape := ⟨3, ![12, 3202, 5120]⟩
abbrev S12x3202x1x1x1 : Shape := ⟨5, ![12, 3202, 1, 1, 1]⟩
abbrev S1x1x8x4x160 : Shape := ⟨5, ![1, 1, 8, 4, 160]⟩
abbrev S12x3202x8x4 : Shape := ⟨4, ![12, 3202, 8, 4]⟩
abbrev S8x1x160 : Shape := ⟨3, ![8, 1, 160]⟩
abbrev S1x1x8x1x160 : Shape := ⟨5, ![1, 1, 8, 1, 160]⟩
abbrev S8x12x3202x4x160 : Shape := ⟨5, ![8, 12, 3202, 4, 160]⟩
abbrev S8x12x3202x4 : Shape := ⟨4, ![8, 12, 3202, 4]⟩

abbrev nBuf : Space → Nat
  | .hbm => 21
  | .vmem => 11
  | .smem => 0
  | _ => 0

abbrev bufTy : (tb : Table) → Fin (tcTables nBuf tb) → BufTy
  | .hbm, ⟨0, _⟩ => ⟨S12x3202x2560, .fp8e4m3⟩
  | .hbm, ⟨1, _⟩ => ⟨S12x3202, .f32⟩
  | .hbm, ⟨2, _⟩ => ⟨S8x2560x4x160, .fp8e4m3⟩
  | .hbm, ⟨3, _⟩ => ⟨S8x4x160, .f32⟩
  | .hbm, ⟨4, _⟩ => ⟨S8x2560x4x160, .fp8e4m3⟩
  | .hbm, ⟨5, _⟩ => ⟨S8x4x160, .f32⟩
  | .hbm, ⟨6, _⟩ => ⟨S8x160, .f32⟩
  | .hbm, ⟨7, _⟩ => ⟨S2560x8x4x160, .fp8e4m3⟩
  | .hbm, ⟨8, _⟩ => ⟨S2560x5120, .fp8e4m3⟩
  | .hbm, ⟨9, _⟩ => ⟨S2560x8x4x160, .fp8e4m3⟩
  | .hbm, ⟨10, _⟩ => ⟨S2560x5120, .fp8e4m3⟩
  | .hbm, ⟨11, _⟩ => ⟨S12x3202x8x4x160, .fp8e4m3⟩
  | .hbm, ⟨12, _⟩ => ⟨S12x3202x8x4x1, .f32⟩
  | .hbm, ⟨13, _⟩ => ⟨S12x3202x8x4x160, .fp8e4m3⟩
  | .hbm, ⟨14, _⟩ => ⟨S12x3202x8x4x1, .f32⟩
  | .hbm, ⟨15, _⟩ => ⟨S8x12x3202x4x160, .fp8e4m3⟩
  | .hbm, ⟨16, _⟩ => ⟨S12x3202x8x4, .f32⟩
  | .hbm, ⟨17, _⟩ => ⟨S8x12x3202x4, .f32⟩
  | .hbm, ⟨18, _⟩ => ⟨S8x12x3202x4x160, .fp8e4m3⟩
  | .hbm, ⟨19, _⟩ => ⟨S12x3202x8x4, .f32⟩
  | .hbm, ⟨20, _⟩ => ⟨S8x12x3202x4, .f32⟩
  | .local _ .vmem, ⟨0, _⟩ => ⟨S12x3202x2560, .fp8e4m3⟩
  | .local _ .vmem, ⟨1, _⟩ => ⟨S12x3202, .f32⟩
  | .local _ .vmem, ⟨2, _⟩ => ⟨S2560x5120, .fp8e4m3⟩
  | .local _ .vmem, ⟨3, _⟩ => ⟨S8x4x160, .f32⟩
  | .local _ .vmem, ⟨4, _⟩ => ⟨S2560x5120, .fp8e4m3⟩
  | .local _ .vmem, ⟨5, _⟩ => ⟨S8x4x160, .f32⟩
  | .local _ .vmem, ⟨6, _⟩ => ⟨S8x160, .f32⟩
  | .local _ .vmem, ⟨7, _⟩ => ⟨S12x3202x8x4x160, .fp8e4m3⟩
  | .local _ .vmem, ⟨8, _⟩ => ⟨S12x3202x8x4x1, .f32⟩
  | .local _ .vmem, ⟨9, _⟩ => ⟨S12x3202x8x4x160, .fp8e4m3⟩
  | .local _ .vmem, ⟨10, _⟩ => ⟨S12x3202x8x4x1, .f32⟩
  | _, _ => ⟨S12x3202x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S12x3202x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x3202 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2560x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x4x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x3202x8x4x160 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x3202x8x4x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x3202x8x4x160 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x3202x8x4x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KFrameBody.lean ====
module

public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The guard of the body's first branch: both grid coordinates are zero. -/
abbrev InitCond (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

set_option maxHeartbeats 4000000 in
/-- The body at the first grid point: the seven inputs are left as found, the results and the scratch at some contents. -/
theorem sound_first (c : Dev nD) (E : Set ℕ) (i : grid0.Coords) (hc : InitCond i) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (x2 : Vec F S1x256x2560 .fp8e4m3) (x3 : Vec F S12x256 .f32) (x4 : Vec F S5120x2560 .fp8e4m3) (x5 : Vec F S5120x2560 .fp8e4m3) (x6 : Vec F S8x4x160 .f32) (x7 : Vec F S8x4x160 .f32) (x8 : Vec F S8x160 .f32) (K : PUnit → sProp 𝕄) :
    iprop((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d))
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_kv_fill i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_kv_fill_eq_skeleton]; unfold cc0_kv_fill_skel
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩⟩, Hk⟩
  subst hf2 hf3 hf4 hf5 hf6 hf7 hf8
  sl_exec (disch := sl_exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  iexists _; iexists _; isplitr
  swap; · iexact H15
  ipureintro; rfl

set_option maxHeartbeats 4000000 in
/-- The body at any other grid point: the seven inputs are left as found, the results and the scratch at some contents. -/
theorem sound_rest (c : Dev nD) (E : Set ℕ) (i : grid0.Coords) (hc : ¬ InitCond i) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (x2 : Vec F S1x256x2560 .fp8e4m3) (x3 : Vec F S12x256 .f32) (x4 : Vec F S5120x2560 .fp8e4m3) (x5 : Vec F S5120x2560 .fp8e4m3) (x6 : Vec F S8x4x160 .f32) (x7 : Vec F S8x4x160 .f32) (x8 : Vec F S8x160 .f32) (K : PUnit → sProp 𝕄) :
    iprop((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d))
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_kv_fill i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_kv_fill_eq_skeleton]; unfold cc0_kv_fill_skel
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩⟩, Hk⟩
  subst hf2 hf3 hf4 hf5 hf6 hf7 hf8
  sl_exec (disch := sl_exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  iexists _; iexists _; isplitr
  swap; · iexact H15
  ipureintro; rfl

end Cert.Kernel.Own

end
-- ==== Proof.KFrameRun.lean ====
module

public import proofs.«01_k».proof.Proof.KFrameBody

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents the frame does not follow: the four results. -/
abbrev fgt : Fin cfg0.W → Bool := fun | 0 => false | 1 => false | 2 => false | 3 => false | 4 => false | 5 => false | 6 => false | 7 => true | 8 => true | 9 => true | 10 => true | ⟨_ + 11, h⟩ => absurd h (Nat.not_lt.2 (Nat.le_add_left _ _))

/-- Every buffer at contents nobody reads: the filler past an array's edge, and the results, which are not followed. -/
def junk {s : Shape} {e : EltTy} : s.Idx → Elt F e := fun _ => Classical.arbitrary _

/-- The proof data of the frame: the inputs' buffers hold their blocks, the results' are not followed, the scratch is
    held at some contents. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) junk (iblk m c 0 t)
    | ⟨1, _⟩ => win0_1.fill (grid0.coords t) junk (iblk m c 1 t)
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => junk
    | ⟨8, _⟩ => junk
    | ⟨9, _⟩ => junk
    | ⟨10, _⟩ => junk
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = win0_0.fill (grid0.coords t) junk (iblk m c 0 t) := by dsimp only [dats]
theorem after_1 (c : Dev nD) (t : Fin cfg0.N) : (dats m 0 c).after 1 t = win0_1.fill (grid0.coords t) junk (iblk m c 1 t) := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem before_0 (c : Dev nD) (t : Fin cfg0.N) (d) : (dats m 0 c).before 0 t d = win0_0.fill (grid0.coords t) d (iblk m c 0 t) := by
  unfold Dat.before; rw [if_pos (fetch0_0 t)]; rfl
theorem before_1 (c : Dev nD) (t : Fin cfg0.N) (d) : (dats m 0 c).before 1 t d = win0_1.fill (grid0.coords t) d (iblk m c 1 t) := by
  unfold Dat.before; rw [if_pos (fetch0_1 t)]; rfl
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The body at any point: the inputs are left as found, the results and the scratch at some contents. -/
theorem sound_any (c : Dev nD) (E : Set ℕ) (i : grid0.Coords) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (x2 : Vec F S1x256x2560 .fp8e4m3) (x3 : Vec F S12x256 .f32) (x4 : Vec F S5120x2560 .fp8e4m3) (x5 : Vec F S5120x2560 .fp8e4m3) (x6 : Vec F S8x4x160 .f32) (x7 : Vec F S8x4x160 .f32) (x8 : Vec F S8x160 .f32) (K : PUnit → sProp 𝕄) :
    iprop((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d))
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_kv_fill i arg2 harg2 arg3 harg3 arg4 harg4 arg5 harg5 arg6 harg6 arg7 harg7 arg8 harg8 arg9 harg9 arg10 harg10 arg11 harg11 arg12 harg12 arg13 harg13 arg14 harg14 arg15 harg15) K := by
  by_cases hc : InitCond i
  · exact sound_first c E i hc arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 K
  · exact sound_rest c E i hc arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 K

/-- A buffer at some contents, as a points-to and as an owned whole memref. -/
theorem owns_of_pts (c : Dev nD) (b : Ref sig .tc) (f : Buf (Elt F) ((c : Thread nD τ).loc b)) :
    (iprop(((c : Thread nD τ).loc b) ↦{fullShare} f) : sProp 𝕄) ⊢ iprop(∃ d, owns (c : Thread nD τ) (Memref.whole b) fullShare d) := by
  iintro H; iexists f; rw [owns_whole_eq]; iexists f; isplitr; · ipureintro; rfl
  iexact H
theorem pts_of_owns (c : Dev nD) (b : Ref sig .tc) :
    (iprop(∃ d, owns (c : Thread nD τ) (Memref.whole b) fullShare d) : sProp 𝕄) ⊢ iprop(∃ f : Buf (Elt F) ((c : Thread nD τ).loc b), ((c : Thread nD τ).loc b) ↦{fullShare} f) := by
  simp only [owns_whole_eq]; iintro ⟨%d, %f, -, H⟩; iexists f; iexact H

set_option maxHeartbeats 4000000 in
/-- The library's body obligation. -/
theorem body_obligation (c : Dev nD) : BodyObligationLoose (dats (F := F) m 0 c) (defs₀ (F := F)) Variants.none () Set.univ fgt := fun t => by
  rw [bigSep_W0, bigSep_W0, defs₀_row]
  simp only [fgt]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  iintro ⟨⟨⟨⟨%s0, S0⟩, ⟨%s1, S1⟩, ⟨%s2, S2⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before_0, before_1, before_2, before_3, before_4, before_5, before_6]
  iapply (sound_any (F := F) c Set.univ (grid0.coords t) _ _ _ _ _ _ _ _ _ _ _ _ _ _ _ _ _ _ _ _ _ _ _ _ _ _ _ _
    (win0_0.fill (grid0.coords t) d0 (iblk m c 0 t)) (win0_1.fill (grid0.coords t) d1 (iblk m c 1 t)) (iblk m c 2 t) (iblk m c 3 t) (iblk m c 4 t) (iblk m c 5 t) (iblk m c 6 t) _)
  isplitl [H0 H1 H2 H3 H4 H5 H6 H7 H8 H9 H10 S0 S1 S2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [S0]; · iapply (owns_of_pts c cc0_scratch0 s0); iexact S0
    isplitl [S1]; · iapply (owns_of_pts c cc0_scratch1 s1); iexact S1
    iapply (owns_of_pts c cc0_scratch2 s2); iexact S2
  iintro ⟨H0, H1, H2, H3, H4, H5, H6, H7, H8, H9, H10, S0, S1, S2⟩
  isplitl [S0 S1 S2 Hr]
  · isplitl [S0 S1 S2]
    · isplitl [S0]; · iapply (pts_of_owns c cc0_scratch0); iexact S0
      isplitl [S1]; · iapply (pts_of_owns c cc0_scratch1); iexact S1
      iapply (pts_of_owns c cc0_scratch2); iexact S2
    iexact Hr
  isplitl [Ho]
  · iexact Ho
  isplitl [H0]
  · iexists d0
    change _ ⊢ owns (c : Thread nD τ) (st0_0 t) fullShare (win0_0.fill (grid0.coords t) d0 (win0_0.cut (grid0.coords t) ((dats m 0 c).after 0 t)))
    rw [after_0, Window.cut_fill]; try iexact H0
  isplitl [H1]
  · iexists d1
    change _ ⊢ owns (c : Thread nD τ) (st0_1 t) fullShare (win0_1.fill (grid0.coords t) d1 (win0_1.cut (grid0.coords t) ((dats m 0 c).after 1 t)))
    rw [after_1, Window.cut_fill]; try iexact H1
  isplitl [H2]
  · rw [after_2]; iexact H2
  isplitl [H3]
  · rw [after_3]; iexact H3
  isplitl [H4]
  · rw [after_4]; iexact H4
  isplitl [H5]
  · rw [after_5]; iexact H5
  isplitl [H6]
  · rw [after_6]; iexact H6
  isplitl [H7]
  · iexact H7
  isplitl [H8]
  · iexact H8
  isplitl [H9]
  · iexact H9
  iexact H10

/-- The buffers the host lines after the region write. -/
def tailWrites : Finset (Ref sig .tc) := {main_v7, main_v8, main_v9, main_v10}

theorem tail_writes : ∀ ops ∈ ([hostOps1] : List (List (HloOp τ sig (Elt F)))), ∀ op ∈ ops, ∀ b : Ref sig .tc,
    Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl | rfl | rfl | rfl <;>
  · simp only [StableHlo.unary_writes, Finset.mem_singleton] at hb
    have := Proc.devRef_injective _ hb
    subst this
    decide

set_option backward.isDefEq.respectTransparency.types false in
set_option maxHeartbeats 800000 in
/-- The frame, at any values: the run ends, the arguments are as launched, every counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_frame_around_T_forget (Q' := _) cfgs (dats m) (0 : Fin 1) launch0 defs₀ Variants.none fgt tailWrites m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)
    (hQ' := fun r h => ⟨fun c => ⟨
      ((h.1 c).2 main_arg0 (Finset.mem_sdiff.mpr ⟨Pipeline.mem_restRefs_of main_arg0 (by decide) (by decide), by decide⟩)).trans (V_main_arg0 m c),
      (Pipeline.RDat.FramePostR.arr_in h.1 c 1 rfl).trans ((A_eq m c 1).trans (V_main_arg1 m c)),
      ((h.1 c).2 main_arg2 (Finset.mem_sdiff.mpr ⟨Pipeline.mem_restRefs_of main_arg2 (by decide) (by decide), by decide⟩)).trans (V_main_arg2 m c),
      (Pipeline.RDat.FramePostR.arr_in h.1 c 4 rfl).trans ((A_eq m c 4).trans (V_main_arg3 m c)),
      ((h.1 c).2 main_arg4 (Finset.mem_sdiff.mpr ⟨Pipeline.mem_restRefs_of main_arg4 (by decide) (by decide), by decide⟩)).trans (V_main_arg4 m c),
      (Pipeline.RDat.FramePostR.arr_in h.1 c 5 rfl).trans ((A_eq m c 5).trans (V_main_arg5 m c)),
      (Pipeline.RDat.FramePostR.arr_in h.1 c 6 rfl).trans ((A_eq m c 6).trans (V_main_arg6 m c))⟩, h.2⟩)

end Cert.Kernel.Own

end
-- ==== Proof.KIFrameBody.lean ====
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The guard of the body's first branch: both grid coordinates are zero. -/
abbrev InitCond (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

set_option maxHeartbeats 4000000 in
/-- The body at the first grid point: the seven inputs are left as found, the results and the scratch at some contents. -/
theorem sound_first (c : Dev nD) (E : Set ℕ) (i : grid0.Coords) (hc : InitCond i) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (x2 : Vec F S1x256x2560 .fp8e4m3) (x3 : Vec F S12x256 .f32) (x4 : Vec F S5120x2560 .fp8e4m3) (x5 : Vec F S5120x2560 .fp8e4m3) (x6 : Vec F S8x4x160 .f32) (x7 : Vec F S8x4x160 .f32) (x8 : Vec F S8x160 .f32) (K : PUnit → sProp 𝕄) :
    iprop((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d))
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_kv_fill i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_kv_fill_eq_skeleton]; unfold cc0_kv_fill_skel
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩⟩, Hk⟩
  subst hf2 hf3 hf4 hf5 hf6 hf7 hf8
  sl_exec (disch := sl_exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  iexists _; iexists _; isplitr
  swap; · iexact H15
  ipureintro; rfl

set_option maxHeartbeats 4000000 in
/-- The body at any other grid point: the seven inputs are left as found, the results and the scratch at some contents. -/
theorem sound_rest (c : Dev nD) (E : Set ℕ) (i : grid0.Coords) (hc : ¬ InitCond i) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (x2 : Vec F S1x256x2560 .fp8e4m3) (x3 : Vec F S12x256 .f32) (x4 : Vec F S5120x2560 .fp8e4m3) (x5 : Vec F S5120x2560 .fp8e4m3) (x6 : Vec F S8x4x160 .f32) (x7 : Vec F S8x4x160 .f32) (x8 : Vec F S8x160 .f32) (K : PUnit → sProp 𝕄) :
    iprop((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d))
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_kv_fill i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_kv_fill_eq_skeleton]; unfold cc0_kv_fill_skel
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩⟩, Hk⟩
  subst hf2 hf3 hf4 hf5 hf6 hf7 hf8
  sl_exec (disch := sl_exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  iexists _; iexists _; isplitr
  swap; · iexact H15
  ipureintro; rfl

end Cert.KernelIdeal.Own

end
-- ==== Proof.KIFrameRun.lean ====
module

public import proofs.«01_k».proof.Proof.KIFrameBody

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents the frame does not follow: the four results. -/
abbrev fgt : Fin cfg0.W → Bool := fun | 0 => false | 1 => false | 2 => false | 3 => false | 4 => false | 5 => false | 6 => false | 7 => true | 8 => true | 9 => true | 10 => true | ⟨_ + 11, h⟩ => absurd h (Nat.not_lt.2 (Nat.le_add_left _ _))

/-- Every buffer at contents nobody reads: the filler past an array's edge, and the results, which are not followed. -/
def junk {s : Shape} {e : EltTy} : s.Idx → Elt F e := fun _ => Classical.arbitrary _

/-- The proof data of the frame: the inputs' buffers hold their blocks, the results' are not followed, the scratch is
    held at some contents. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) junk (iblk m c 0 t)
    | ⟨1, _⟩ => win0_1.fill (grid0.coords t) junk (iblk m c 1 t)
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => junk
    | ⟨8, _⟩ => junk
    | ⟨9, _⟩ => junk
    | ⟨10, _⟩ => junk
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = win0_0.fill (grid0.coords t) junk (iblk m c 0 t) := by dsimp only [dats]
theorem after_1 (c : Dev nD) (t : Fin cfg0.N) : (dats m 0 c).after 1 t = win0_1.fill (grid0.coords t) junk (iblk m c 1 t) := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem before_0 (c : Dev nD) (t : Fin cfg0.N) (d) : (dats m 0 c).before 0 t d = win0_0.fill (grid0.coords t) d (iblk m c 0 t) := by
  unfold Dat.before; rw [if_pos (fetch0_0 t)]; rfl
theorem before_1 (c : Dev nD) (t : Fin cfg0.N) (d) : (dats m 0 c).before 1 t d = win0_1.fill (grid0.coords t) d (iblk m c 1 t) := by
  unfold Dat.before; rw [if_pos (fetch0_1 t)]; rfl
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The body at any point: the inputs are left as found, the results and the scratch at some contents. -/
theorem sound_any (c : Dev nD) (E : Set ℕ) (i : grid0.Coords) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (x2 : Vec F S1x256x2560 .fp8e4m3) (x3 : Vec F S12x256 .f32) (x4 : Vec F S5120x2560 .fp8e4m3) (x5 : Vec F S5120x2560 .fp8e4m3) (x6 : Vec F S8x4x160 .f32) (x7 : Vec F S8x4x160 .f32) (x8 : Vec F S8x160 .f32) (K : PUnit → sProp 𝕄) :
    iprop((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d))
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_kv_fill i arg2 harg2 arg3 harg3 arg4 harg4 arg5 harg5 arg6 harg6 arg7 harg7 arg8 harg8 arg9 harg9 arg10 harg10 arg11 harg11 arg12 harg12 arg13 harg13 arg14 harg14 arg15 harg15) K := by
  by_cases hc : InitCond i
  · exact sound_first c E i hc arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 K
  · exact sound_rest c E i hc arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 K

/-- A buffer at some contents, as a points-to and as an owned whole memref. -/
theorem owns_of_pts (c : Dev nD) (b : Ref sig .tc) (f : Buf (Elt F) ((c : Thread nD τ).loc b)) :
    (iprop(((c : Thread nD τ).loc b) ↦{fullShare} f) : sProp 𝕄) ⊢ iprop(∃ d, owns (c : Thread nD τ) (Memref.whole b) fullShare d) := by
  iintro H; iexists f; rw [owns_whole_eq]; iexists f; isplitr; · ipureintro; rfl
  iexact H
theorem pts_of_owns (c : Dev nD) (b : Ref sig .tc) :
    (iprop(∃ d, owns (c : Thread nD τ) (Memref.whole b) fullShare d) : sProp 𝕄) ⊢ iprop(∃ f : Buf (Elt F) ((c : Thread nD τ).loc b), ((c : Thread nD τ).loc b) ↦{fullShare} f) := by
  simp only [owns_whole_eq]; iintro ⟨%d, %f, -, H⟩; iexists f; iexact H

set_option maxHeartbeats 4000000 in
/-- The library's body obligation. -/
theorem body_obligation (c : Dev nD) : BodyObligationLoose (dats (F := F) m 0 c) (defs₀ (F := F)) Variants.none () Set.univ fgt := fun t => by
  rw [bigSep_W0, bigSep_W0, defs₀_row]
  simp only [fgt]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  iintro ⟨⟨⟨⟨%s0, S0⟩, ⟨%s1, S1⟩, ⟨%s2, S2⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before_0, before_1, before_2, before_3, before_4, before_5, before_6]
  iapply (sound_any (F := F) c Set.univ (grid0.coords t) _ _ _ _ _ _ _ _ _ _ _ _ _ _ _ _ _ _ _ _ _ _ _ _ _ _ _ _
    (win0_0.fill (grid0.coords t) d0 (iblk m c 0 t)) (win0_1.fill (grid0.coords t) d1 (iblk m c 1 t)) (iblk m c 2 t) (iblk m c 3 t) (iblk m c 4 t) (iblk m c 5 t) (iblk m c 6 t) _)
  isplitl [H0 H1 H2 H3 H4 H5 H6 H7 H8 H9 H10 S0 S1 S2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [S0]; · iapply (owns_of_pts c cc0_scratch0 s0); iexact S0
    isplitl [S1]; · iapply (owns_of_pts c cc0_scratch1 s1); iexact S1
    iapply (owns_of_pts c cc0_scratch2 s2); iexact S2
  iintro ⟨H0, H1, H2, H3, H4, H5, H6, H7, H8, H9, H10, S0, S1, S2⟩
  isplitl [S0 S1 S2 Hr]
  · isplitl [S0 S1 S2]
    · isplitl [S0]; · iapply (pts_of_owns c cc0_scratch0); iexact S0
      isplitl [S1]; · iapply (pts_of_owns c cc0_scratch1); iexact S1
      iapply (pts_of_owns c cc0_scratch2); iexact S2
    iexact Hr
  isplitl [Ho]
  · iexact Ho
  isplitl [H0]
  · iexists d0
    change _ ⊢ owns (c : Thread nD τ) (st0_0 t) fullShare (win0_0.fill (grid0.coords t) d0 (win0_0.cut (grid0.coords t) ((dats m 0 c).after 0 t)))
    rw [after_0, Window.cut_fill]; try iexact H0
  isplitl [H1]
  · iexists d1
    change _ ⊢ owns (c : Thread nD τ) (st0_1 t) fullShare (win0_1.fill (grid0.coords t) d1 (win0_1.cut (grid0.coords t) ((dats m 0 c).after 1 t)))
    rw [after_1, Window.cut_fill]; try iexact H1
  isplitl [H2]
  · rw [after_2]; iexact H2
  isplitl [H3]
  · rw [after_3]; iexact H3
  isplitl [H4]
  · rw [after_4]; iexact H4
  isplitl [H5]
  · rw [after_5]; iexact H5
  isplitl [H6]
  · rw [after_6]; iexact H6
  isplitl [H7]
  · iexact H7
  isplitl [H8]
  · iexact H8
  isplitl [H9]
  · iexact H9
  iexact H10

/-- The buffers the host lines after the region write. -/
def tailWrites : Finset (Ref sig .tc) := {main_v7, main_v8, main_v9, main_v10}

theorem tail_writes : ∀ ops ∈ ([hostOps1] : List (List (HloOp τ sig (Elt F)))), ∀ op ∈ ops, ∀ b : Ref sig .tc,
    Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl | rfl | rfl | rfl <;>
  · simp only [StableHlo.unary_writes, Finset.mem_singleton] at hb
    have := Proc.devRef_injective _ hb
    subst this
    decide

set_option backward.isDefEq.respectTransparency.types false in
set_option maxHeartbeats 800000 in
/-- The frame, at any values: the run ends, the arguments are as launched, every counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_frame_around_T_forget (Q' := _) cfgs (dats m) (0 : Fin 1) launch0 defs₀ Variants.none fgt tailWrites m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)
    (hQ' := fun r h => ⟨fun c => ⟨
      ((h.1 c).2 main_arg0 (Finset.mem_sdiff.mpr ⟨Pipeline.mem_restRefs_of main_arg0 (by decide) (by decide), by decide⟩)).trans (V_main_arg0 m c),
      (Pipeline.RDat.FramePostR.arr_in h.1 c 1 rfl).trans ((A_eq m c 1).trans (V_main_arg1 m c)),
      ((h.1 c).2 main_arg2 (Finset.mem_sdiff.mpr ⟨Pipeline.mem_restRefs_of main_arg2 (by decide) (by decide), by decide⟩)).trans (V_main_arg2 m c),
      (Pipeline.RDat.FramePostR.arr_in h.1 c 4 rfl).trans ((A_eq m c 4).trans (V_main_arg3 m c)),
      ((h.1 c).2 main_arg4 (Finset.mem_sdiff.mpr ⟨Pipeline.mem_restRefs_of main_arg4 (by decide) (by decide), by decide⟩)).trans (V_main_arg4 m c),
      (Pipeline.RDat.FramePostR.arr_in h.1 c 5 rfl).trans ((A_eq m c 5).trans (V_main_arg5 m c)),
      (Pipeline.RDat.FramePostR.arr_in h.1 c 6 rfl).trans ((A_eq m c 6).trans (V_main_arg6 m c))⟩, h.2⟩)

end Cert.KernelIdeal.Own

end
-- ==== Proof.KITrip.lean ====
module

public import proofs.«01_k».proof.Proof.Gen.KernelIdeal.Loops
import all proofs.«01_k».proof.Proof.Gen.KernelIdeal.Loops

@[expose] public section

set_option maxRecDepth 16384

noncomputable section

namespace Cert.KernelIdeal.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # One layer's trip of the kernel, as four lists of written blocks

The body treats each (head, 128 tokens) pair in the same way; this file names what it computes for a pair once, with
the pair's offsets as parameters, and states that the trip's writes are these values at the eight pairs. -/

/-- The projection block of a pair, scaled by the tokens' scales and by the weights' scales. -/
def scaled (m : FVec F S640x256 .f32) (v8 : Vec F S1x256 .f32) (s : Vec F S1x1x160x128 .f32) (o : ℕ) (c : ℕ)
    (ho : S640x256.Slices ![o, c] S160x128) (hc : S1x256.Slices ![0, c] S1x128) : FVec F S160x128 .f32 :=
  mulf (mulf (extractStridedSlice S160x128 ![o, c] m ho)
    (broadcastTo S160x128 (extractStridedSlice S1x128 ![0, c] v8 hc) broadcasts_S1x128_S160x128))
    (shapeCast S160x128 s shapeCasts_S1x1x160x128_S160x128)

/-- The normalised block: every column divided by the root of its mean square, times the weights of the norm. -/
def normed (y : FVec F S160x128 .f32) (g : Vec F S1x160x128 .f32) : FVec F S160x128 .f32 :=
  mulf (mulf y (broadcastTo S160x128 (rsqrt (addf
    (divf (shapeCast S1x128 (multiReduction .add [0] S128 (mulf y y) 0x00000000#32 reduces_S160x128_S128 (.inl rfl) rfl) shapeCasts_S128_S1x128)
      (broadcast S1x128 (Scalar.ofBits .f32 0x43200000#32)))
    (broadcast S1x128 (Scalar.ofBits .f32 0x3727C5AC#32)))) broadcasts_S1x128_S160x128))
    (shapeCast S160x128 g shapeCasts_S1x160x128_S160x128)

/-- The columns' largest magnitudes over 448. -/
def quot (n : FVec F S160x128 .f32) : FVec F S1x128 .f32 :=
  mulf (shapeCast S1x128 (multiReduction .maximumf [0] S128 (absf n) 0xFF800000#32 reduces_S160x128_S128 (.inl rfl) rfl) shapeCasts_S128_S1x128)
    (broadcast S1x128 (Scalar.ofBits .f32 0x3B124925#32))

/-- The columns' exponents: the number of the powers of two from `2^-126` to `2^125` that the quotient reaches, less 126;
    zero where the quotient is zero or not finite. -/
def expo (q : FVec F S1x128 .f32) : IVec S1x128 32 :=
  select (ori (cmpf .oeq q (broadcast S1x128 (Scalar.ofBits .f32 0x00000000#32)))
      (xori (cmpf .olt q (broadcast S1x128 (Scalar.ofBits .f32 0x7F800000#32))) (constantI S1x128 1 1#1)))
    (broadcast S1x128 0#32)
    (subi (shapeCast S1x128 (multiReductionI .add [0] S128 (extui 32 (cmpf .oge (broadcastTo S252x128 q broadcasts_S1x128_S252x128)
      (bitcastToFloat .f32 (shli (addi (iota .tc S252x128 32 [0] iota_S252x128_d0_w32) (broadcast S252x128 1#32)) (broadcast S252x128 23#32))))
      natLt_1_32) 0#32 reduces_S252x128_S128 rfl) shapeCasts_S128_S1x128) (broadcast S1x128 126#32))

/-- The power of two a column is scaled back by. -/
def up (q : FVec F S1x128 .f32) : FVec F S1x128 .f32 :=
  bitcastToFloat .f32 (shli (addi (broadcast S1x128 127#32) (expo q)) (broadcast S1x128 23#32))

/-- The power of two a column is scaled by before it is coded. -/
def down (q : FVec F S1x128 .f32) : FVec F S1x128 .f32 :=
  bitcastToFloat .f32 (shli (subi (broadcast S1x128 127#32) (expo q)) (broadcast S1x128 23#32))

/-- The codes of a block, as the kernel stores them. -/
def codesBlk (n : FVec F S160x128 .f32) : FVec F S1x1x1x160x128 .fp8e4m3 :=
  shapeCast S1x1x1x160x128 (truncf .fp8e4m3 (minimumf (broadcast S160x128 (Scalar.ofBits .f32 0x43E00000#32))
    (maximumf (broadcast S160x128 (Scalar.ofBits .f32 0xC3E00000#32))
      (mulf n (broadcastTo S160x128 (down (quot n)) broadcasts_S1x128_S160x128)))) bitsLt_fp8e4m3_f32) shapeCasts_S160x128_S1x1x1x160x128

/-- The scales of a block, as the kernel stores them. -/
def upBlk (n : FVec F S160x128 .f32) : FVec F S1x1x1x128 .f32 :=
  shapeCast S1x1x1x128 (up (quot n)) shapeCasts_S1x128_S1x1x1x128

/-- What a trip writes of the keys' codes. -/
theorem trip_k_codes (𝒱 : Variants) (c : Dev nD) (bd : Option 𝒱.V) (i : grid0.Coords) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (v5 : Vec F S1x256x2560 .fp8e4m3) (v8 : Vec F S1x256 .f32) (X4 : BufTy.Contents (Elt F) arg4.view.ty) (X5 : BufTy.Contents (Elt F) arg5.view.ty)
    (X13 : BufTy.Contents (Elt F) arg13.view.ty) (X14 : BufTy.Contents (Elt F) arg14.view.ty) (X15 : BufTy.Contents (Elt F) arg15.view.ty) (k : Fin k0_t1_loop.trips) :
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 k).1 =
      [⟨Rect.unit (s := S8x1x4x160x256) (k0_off22 k) S1x1x1x160x128.size (k0_off22_inb k), codesBlk (normed (scaled (k0_pay89 (k0_pay2 v5) (arg4.view.readAt (Elt F) (Rect.unit (s := S5120x2560) (k0_off2 k) S640x2560.size (k0_off2_inb k)).toLoadRect X4)) v8 (arg13.view.readAt (Elt F) (Rect.unit (s := S8x4x160x128) (k0_off19 k) S1x1x160x128.size (k0_off19_inb k)).toLoadRect X13) 480 128 slices_S640x256_o480_128_S160x128 slices_S1x256_o0_128_S1x128) (arg15.view.readAt (Elt F) (Rect.unit (s := S8x160x128) (k0_off4 k) S1x160x128.size (k0_off4_inb k)).toLoadRect X15))⟩,
       ⟨Rect.unit (s := S8x1x4x160x256) (k0_off20 k) S1x1x1x160x128.size (k0_off20_inb k), codesBlk (normed (scaled (k0_pay89 (k0_pay2 v5) (arg4.view.readAt (Elt F) (Rect.unit (s := S5120x2560) (k0_off2 k) S640x2560.size (k0_off2_inb k)).toLoadRect X4)) v8 (arg13.view.readAt (Elt F) (Rect.unit (s := S8x4x160x128) (k0_off19 k) S1x1x160x128.size (k0_off19_inb k)).toLoadRect X13) 480 0 slices_S640x256_o480_0_S160x128 slices_S1x256_o0_0_S1x128) (arg15.view.readAt (Elt F) (Rect.unit (s := S8x160x128) (k0_off4 k) S1x160x128.size (k0_off4_inb k)).toLoadRect X15))⟩,
       ⟨Rect.unit (s := S8x1x4x160x256) (k0_off17 k) S1x1x1x160x128.size (k0_off17_inb k), codesBlk (normed (scaled (k0_pay89 (k0_pay2 v5) (arg4.view.readAt (Elt F) (Rect.unit (s := S5120x2560) (k0_off2 k) S640x2560.size (k0_off2_inb k)).toLoadRect X4)) v8 (arg13.view.readAt (Elt F) (Rect.unit (s := S8x4x160x128) (k0_off14 k) S1x1x160x128.size (k0_off14_inb k)).toLoadRect X13) 320 128 slices_S640x256_o320_128_S160x128 slices_S1x256_o0_128_S1x128) (arg15.view.readAt (Elt F) (Rect.unit (s := S8x160x128) (k0_off4 k) S1x160x128.size (k0_off4_inb k)).toLoadRect X15))⟩,
       ⟨Rect.unit (s := S8x1x4x160x256) (k0_off15 k) S1x1x1x160x128.size (k0_off15_inb k), codesBlk (normed (scaled (k0_pay89 (k0_pay2 v5) (arg4.view.readAt (Elt F) (Rect.unit (s := S5120x2560) (k0_off2 k) S640x2560.size (k0_off2_inb k)).toLoadRect X4)) v8 (arg13.view.readAt (Elt F) (Rect.unit (s := S8x4x160x128) (k0_off14 k) S1x1x160x128.size (k0_off14_inb k)).toLoadRect X13) 320 0 slices_S640x256_o320_0_S160x128 slices_S1x256_o0_0_S1x128) (arg15.view.readAt (Elt F) (Rect.unit (s := S8x160x128) (k0_off4 k) S1x160x128.size (k0_off4_inb k)).toLoadRect X15))⟩,
       ⟨Rect.unit (s := S8x1x4x160x256) (k0_off12 k) S1x1x1x160x128.size (k0_off12_inb k), codesBlk (normed (scaled (k0_pay89 (k0_pay2 v5) (arg4.view.readAt (Elt F) (Rect.unit (s := S5120x2560) (k0_off2 k) S640x2560.size (k0_off2_inb k)).toLoadRect X4)) v8 (arg13.view.readAt (Elt F) (Rect.unit (s := S8x4x160x128) (k0_off9 k) S1x1x160x128.size (k0_off9_inb k)).toLoadRect X13) 160 128 slices_S640x256_o160_128_S160x128 slices_S1x256_o0_128_S1x128) (arg15.view.readAt (Elt F) (Rect.unit (s := S8x160x128) (k0_off4 k) S1x160x128.size (k0_off4_inb k)).toLoadRect X15))⟩,
       ⟨Rect.unit (s := S8x1x4x160x256) (k0_off10 k) S1x1x1x160x128.size (k0_off10_inb k), codesBlk (normed (scaled (k0_pay89 (k0_pay2 v5) (arg4.view.readAt (Elt F) (Rect.unit (s := S5120x2560) (k0_off2 k) S640x2560.size (k0_off2_inb k)).toLoadRect X4)) v8 (arg13.view.readAt (Elt F) (Rect.unit (s := S8x4x160x128) (k0_off9 k) S1x1x160x128.size (k0_off9_inb k)).toLoadRect X13) 160 0 slices_S640x256_o160_0_S160x128 slices_S1x256_o0_0_S1x128) (arg15.view.readAt (Elt F) (Rect.unit (s := S8x160x128) (k0_off4 k) S1x160x128.size (k0_off4_inb k)).toLoadRect X15))⟩,
       ⟨Rect.unit (s := S8x1x4x160x256) (k0_off7 k) S1x1x1x160x128.size (k0_off7_inb k), codesBlk (normed (scaled (k0_pay89 (k0_pay2 v5) (arg4.view.readAt (Elt F) (Rect.unit (s := S5120x2560) (k0_off2 k) S640x2560.size (k0_off2_inb k)).toLoadRect X4)) v8 (arg13.view.readAt (Elt F) (Rect.unit (s := S8x4x160x128) (k0_off3 k) S1x1x160x128.size (k0_off3_inb k)).toLoadRect X13) 0 128 slices_S640x256_o0_128_S160x128 slices_S1x256_o0_128_S1x128) (arg15.view.readAt (Elt F) (Rect.unit (s := S8x160x128) (k0_off4 k) S1x160x128.size (k0_off4_inb k)).toLoadRect X15))⟩,
       ⟨Rect.unit (s := S8x1x4x160x256) (k0_off5 k) S1x1x1x160x128.size (k0_off5_inb k), codesBlk (normed (scaled (k0_pay89 (k0_pay2 v5) (arg4.view.readAt (Elt F) (Rect.unit (s := S5120x2560) (k0_off2 k) S640x2560.size (k0_off2_inb k)).toLoadRect X4)) v8 (arg13.view.readAt (Elt F) (Rect.unit (s := S8x4x160x128) (k0_off3 k) S1x1x160x128.size (k0_off3_inb k)).toLoadRect X13) 0 0 slices_S640x256_o0_0_S160x128 slices_S1x256_o0_0_S1x128) (arg15.view.readAt (Elt F) (Rect.unit (s := S8x160x128) (k0_off4 k) S1x160x128.size (k0_off4_inb k)).toLoadRect X15))⟩] := by
  unfold tripL_k0_t1 trip_k0_t1; dsimp only
  rfl

/-- What a trip writes of the keys' scales. -/
theorem trip_k_scales (𝒱 : Variants) (c : Dev nD) (bd : Option 𝒱.V) (i : grid0.Coords) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (v5 : Vec F S1x256x2560 .fp8e4m3) (v8 : Vec F S1x256 .f32) (X4 : BufTy.Contents (Elt F) arg4.view.ty) (X5 : BufTy.Contents (Elt F) arg5.view.ty)
    (X13 : BufTy.Contents (Elt F) arg13.view.ty) (X14 : BufTy.Contents (Elt F) arg14.view.ty) (X15 : BufTy.Contents (Elt F) arg15.view.ty) (k : Fin k0_t1_loop.trips) :
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 k).2.1 =
      [⟨Rect.unit (s := S8x1x4x256) (k0_off23 k) S1x1x1x128.size (k0_off23_inb k), upBlk (normed (scaled (k0_pay89 (k0_pay2 v5) (arg4.view.readAt (Elt F) (Rect.unit (s := S5120x2560) (k0_off2 k) S640x2560.size (k0_off2_inb k)).toLoadRect X4)) v8 (arg13.view.readAt (Elt F) (Rect.unit (s := S8x4x160x128) (k0_off19 k) S1x1x160x128.size (k0_off19_inb k)).toLoadRect X13) 480 128 slices_S640x256_o480_128_S160x128 slices_S1x256_o0_128_S1x128) (arg15.view.readAt (Elt F) (Rect.unit (s := S8x160x128) (k0_off4 k) S1x160x128.size (k0_off4_inb k)).toLoadRect X15))⟩,
       ⟨Rect.unit (s := S8x1x4x256) (k0_off21 k) S1x1x1x128.size (k0_off21_inb k), upBlk (normed (scaled (k0_pay89 (k0_pay2 v5) (arg4.view.readAt (Elt F) (Rect.unit (s := S5120x2560) (k0_off2 k) S640x2560.size (k0_off2_inb k)).toLoadRect X4)) v8 (arg13.view.readAt (Elt F) (Rect.unit (s := S8x4x160x128) (k0_off19 k) S1x1x160x128.size (k0_off19_inb k)).toLoadRect X13) 480 0 slices_S640x256_o480_0_S160x128 slices_S1x256_o0_0_S1x128) (arg15.view.readAt (Elt F) (Rect.unit (s := S8x160x128) (k0_off4 k) S1x160x128.size (k0_off4_inb k)).toLoadRect X15))⟩,
       ⟨Rect.unit (s := S8x1x4x256) (k0_off18 k) S1x1x1x128.size (k0_off18_inb k), upBlk (normed (scaled (k0_pay89 (k0_pay2 v5) (arg4.view.readAt (Elt F) (Rect.unit (s := S5120x2560) (k0_off2 k) S640x2560.size (k0_off2_inb k)).toLoadRect X4)) v8 (arg13.view.readAt (Elt F) (Rect.unit (s := S8x4x160x128) (k0_off14 k) S1x1x160x128.size (k0_off14_inb k)).toLoadRect X13) 320 128 slices_S640x256_o320_128_S160x128 slices_S1x256_o0_128_S1x128) (arg15.view.readAt (Elt F) (Rect.unit (s := S8x160x128) (k0_off4 k) S1x160x128.size (k0_off4_inb k)).toLoadRect X15))⟩,
       ⟨Rect.unit (s := S8x1x4x256) (k0_off16 k) S1x1x1x128.size (k0_off16_inb k), upBlk (normed (scaled (k0_pay89 (k0_pay2 v5) (arg4.view.readAt (Elt F) (Rect.unit (s := S5120x2560) (k0_off2 k) S640x2560.size (k0_off2_inb k)).toLoadRect X4)) v8 (arg13.view.readAt (Elt F) (Rect.unit (s := S8x4x160x128) (k0_off14 k) S1x1x160x128.size (k0_off14_inb k)).toLoadRect X13) 320 0 slices_S640x256_o320_0_S160x128 slices_S1x256_o0_0_S1x128) (arg15.view.readAt (Elt F) (Rect.unit (s := S8x160x128) (k0_off4 k) S1x160x128.size (k0_off4_inb k)).toLoadRect X15))⟩,
       ⟨Rect.unit (s := S8x1x4x256) (k0_off13 k) S1x1x1x128.size (k0_off13_inb k), upBlk (normed (scaled (k0_pay89 (k0_pay2 v5) (arg4.view.readAt (Elt F) (Rect.unit (s := S5120x2560) (k0_off2 k) S640x2560.size (k0_off2_inb k)).toLoadRect X4)) v8 (arg13.view.readAt (Elt F) (Rect.unit (s := S8x4x160x128) (k0_off9 k) S1x1x160x128.size (k0_off9_inb k)).toLoadRect X13) 160 128 slices_S640x256_o160_128_S160x128 slices_S1x256_o0_128_S1x128) (arg15.view.readAt (Elt F) (Rect.unit (s := S8x160x128) (k0_off4 k) S1x160x128.size (k0_off4_inb k)).toLoadRect X15))⟩,
       ⟨Rect.unit (s := S8x1x4x256) (k0_off11 k) S1x1x1x128.size (k0_off11_inb k), upBlk (normed (scaled (k0_pay89 (k0_pay2 v5) (arg4.view.readAt (Elt F) (Rect.unit (s := S5120x2560) (k0_off2 k) S640x2560.size (k0_off2_inb k)).toLoadRect X4)) v8 (arg13.view.readAt (Elt F) (Rect.unit (s := S8x4x160x128) (k0_off9 k) S1x1x160x128.size (k0_off9_inb k)).toLoadRect X13) 160 0 slices_S640x256_o160_0_S160x128 slices_S1x256_o0_0_S1x128) (arg15.view.readAt (Elt F) (Rect.unit (s := S8x160x128) (k0_off4 k) S1x160x128.size (k0_off4_inb k)).toLoadRect X15))⟩,
       ⟨Rect.unit (s := S8x1x4x256) (k0_off8 k) S1x1x1x128.size (k0_off8_inb k), upBlk (normed (scaled (k0_pay89 (k0_pay2 v5) (arg4.view.readAt (Elt F) (Rect.unit (s := S5120x2560) (k0_off2 k) S640x2560.size (k0_off2_inb k)).toLoadRect X4)) v8 (arg13.view.readAt (Elt F) (Rect.unit (s := S8x4x160x128) (k0_off3 k) S1x1x160x128.size (k0_off3_inb k)).toLoadRect X13) 0 128 slices_S640x256_o0_128_S160x128 slices_S1x256_o0_128_S1x128) (arg15.view.readAt (Elt F) (Rect.unit (s := S8x160x128) (k0_off4 k) S1x160x128.size (k0_off4_inb k)).toLoadRect X15))⟩,
       ⟨Rect.unit (s := S8x1x4x256) (k0_off6 k) S1x1x1x128.size (k0_off6_inb k), upBlk (normed (scaled (k0_pay89 (k0_pay2 v5) (arg4.view.readAt (Elt F) (Rect.unit (s := S5120x2560) (k0_off2 k) S640x2560.size (k0_off2_inb k)).toLoadRect X4)) v8 (arg13.view.readAt (Elt F) (Rect.unit (s := S8x4x160x128) (k0_off3 k) S1x1x160x128.size (k0_off3_inb k)).toLoadRect X13) 0 0 slices_S640x256_o0_0_S160x128 slices_S1x256_o0_0_S1x128) (arg15.view.readAt (Elt F) (Rect.unit (s := S8x160x128) (k0_off4 k) S1x160x128.size (k0_off4_inb k)).toLoadRect X15))⟩] := by
  unfold tripL_k0_t1 trip_k0_t1; dsimp only
  rfl

/-- What a trip writes of the values' codes. -/
theorem trip_v_codes (𝒱 : Variants) (c : Dev nD) (bd : Option 𝒱.V) (i : grid0.Coords) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (v5 : Vec F S1x256x2560 .fp8e4m3) (v8 : Vec F S1x256 .f32) (X4 : BufTy.Contents (Elt F) arg4.view.ty) (X5 : BufTy.Contents (Elt F) arg5.view.ty)
    (X13 : BufTy.Contents (Elt F) arg13.view.ty) (X14 : BufTy.Contents (Elt F) arg14.view.ty) (X15 : BufTy.Contents (Elt F) arg15.view.ty) (k : Fin k0_t1_loop.trips) :
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 k).2.2.1 =
      [⟨Rect.unit (s := S8x1x4x160x256) (k0_off22 k) S1x1x1x160x128.size (k0_off22_inb k), codesBlk (scaled (k0_pay90 (k0_pay2 v5) (arg5.view.readAt (Elt F) (Rect.unit (s := S5120x2560) (k0_off2 k) S640x2560.size (k0_off2_inb k)).toLoadRect X5)) v8 (arg14.view.readAt (Elt F) (Rect.unit (s := S8x4x160x128) (k0_off19 k) S1x1x160x128.size (k0_off19_inb k)).toLoadRect X14) 480 128 slices_S640x256_o480_128_S160x128 slices_S1x256_o0_128_S1x128)⟩,
       ⟨Rect.unit (s := S8x1x4x160x256) (k0_off20 k) S1x1x1x160x128.size (k0_off20_inb k), codesBlk (scaled (k0_pay90 (k0_pay2 v5) (arg5.view.readAt (Elt F) (Rect.unit (s := S5120x2560) (k0_off2 k) S640x2560.size (k0_off2_inb k)).toLoadRect X5)) v8 (arg14.view.readAt (Elt F) (Rect.unit (s := S8x4x160x128) (k0_off19 k) S1x1x160x128.size (k0_off19_inb k)).toLoadRect X14) 480 0 slices_S640x256_o480_0_S160x128 slices_S1x256_o0_0_S1x128)⟩,
       ⟨Rect.unit (s := S8x1x4x160x256) (k0_off17 k) S1x1x1x160x128.size (k0_off17_inb k), codesBlk (scaled (k0_pay90 (k0_pay2 v5) (arg5.view.readAt (Elt F) (Rect.unit (s := S5120x2560) (k0_off2 k) S640x2560.size (k0_off2_inb k)).toLoadRect X5)) v8 (arg14.view.readAt (Elt F) (Rect.unit (s := S8x4x160x128) (k0_off14 k) S1x1x160x128.size (k0_off14_inb k)).toLoadRect X14) 320 128 slices_S640x256_o320_128_S160x128 slices_S1x256_o0_128_S1x128)⟩,
       ⟨Rect.unit (s := S8x1x4x160x256) (k0_off15 k) S1x1x1x160x128.size (k0_off15_inb k), codesBlk (scaled (k0_pay90 (k0_pay2 v5) (arg5.view.readAt (Elt F) (Rect.unit (s := S5120x2560) (k0_off2 k) S640x2560.size (k0_off2_inb k)).toLoadRect X5)) v8 (arg14.view.readAt (Elt F) (Rect.unit (s := S8x4x160x128) (k0_off14 k) S1x1x160x128.size (k0_off14_inb k)).toLoadRect X14) 320 0 slices_S640x256_o320_0_S160x128 slices_S1x256_o0_0_S1x128)⟩,
       ⟨Rect.unit (s := S8x1x4x160x256) (k0_off12 k) S1x1x1x160x128.size (k0_off12_inb k), codesBlk (scaled (k0_pay90 (k0_pay2 v5) (arg5.view.readAt (Elt F) (Rect.unit (s := S5120x2560) (k0_off2 k) S640x2560.size (k0_off2_inb k)).toLoadRect X5)) v8 (arg14.view.readAt (Elt F) (Rect.unit (s := S8x4x160x128) (k0_off9 k) S1x1x160x128.size (k0_off9_inb k)).toLoadRect X14) 160 128 slices_S640x256_o160_128_S160x128 slices_S1x256_o0_128_S1x128)⟩,
       ⟨Rect.unit (s := S8x1x4x160x256) (k0_off10 k) S1x1x1x160x128.size (k0_off10_inb k), codesBlk (scaled (k0_pay90 (k0_pay2 v5) (arg5.view.readAt (Elt F) (Rect.unit (s := S5120x2560) (k0_off2 k) S640x2560.size (k0_off2_inb k)).toLoadRect X5)) v8 (arg14.view.readAt (Elt F) (Rect.unit (s := S8x4x160x128) (k0_off9 k) S1x1x160x128.size (k0_off9_inb k)).toLoadRect X14) 160 0 slices_S640x256_o160_0_S160x128 slices_S1x256_o0_0_S1x128)⟩,
       ⟨Rect.unit (s := S8x1x4x160x256) (k0_off7 k) S1x1x1x160x128.size (k0_off7_inb k), codesBlk (scaled (k0_pay90 (k0_pay2 v5) (arg5.view.readAt (Elt F) (Rect.unit (s := S5120x2560) (k0_off2 k) S640x2560.size (k0_off2_inb k)).toLoadRect X5)) v8 (arg14.view.readAt (Elt F) (Rect.unit (s := S8x4x160x128) (k0_off3 k) S1x1x160x128.size (k0_off3_inb k)).toLoadRect X14) 0 128 slices_S640x256_o0_128_S160x128 slices_S1x256_o0_128_S1x128)⟩,
       ⟨Rect.unit (s := S8x1x4x160x256) (k0_off5 k) S1x1x1x160x128.size (k0_off5_inb k), codesBlk (scaled (k0_pay90 (k0_pay2 v5) (arg5.view.readAt (Elt F) (Rect.unit (s := S5120x2560) (k0_off2 k) S640x2560.size (k0_off2_inb k)).toLoadRect X5)) v8 (arg14.view.readAt (Elt F) (Rect.unit (s := S8x4x160x128) (k0_off3 k) S1x1x160x128.size (k0_off3_inb k)).toLoadRect X14) 0 0 slices_S640x256_o0_0_S160x128 slices_S1x256_o0_0_S1x128)⟩] := by
  unfold tripL_k0_t1 trip_k0_t1; dsimp only
  rfl

/-- What a trip writes of the values' scales. -/
theorem trip_v_scales (𝒱 : Variants) (c : Dev nD) (bd : Option 𝒱.V) (i : grid0.Coords) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (v5 : Vec F S1x256x2560 .fp8e4m3) (v8 : Vec F S1x256 .f32) (X4 : BufTy.Contents (Elt F) arg4.view.ty) (X5 : BufTy.Contents (Elt F) arg5.view.ty)
    (X13 : BufTy.Contents (Elt F) arg13.view.ty) (X14 : BufTy.Contents (Elt F) arg14.view.ty) (X15 : BufTy.Contents (Elt F) arg15.view.ty) (k : Fin k0_t1_loop.trips) :
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 k).2.2.2 =
      [⟨Rect.unit (s := S8x1x4x256) (k0_off23 k) S1x1x1x128.size (k0_off23_inb k), upBlk (scaled (k0_pay90 (k0_pay2 v5) (arg5.view.readAt (Elt F) (Rect.unit (s := S5120x2560) (k0_off2 k) S640x2560.size (k0_off2_inb k)).toLoadRect X5)) v8 (arg14.view.readAt (Elt F) (Rect.unit (s := S8x4x160x128) (k0_off19 k) S1x1x160x128.size (k0_off19_inb k)).toLoadRect X14) 480 128 slices_S640x256_o480_128_S160x128 slices_S1x256_o0_128_S1x128)⟩,
       ⟨Rect.unit (s := S8x1x4x256) (k0_off21 k) S1x1x1x128.size (k0_off21_inb k), upBlk (scaled (k0_pay90 (k0_pay2 v5) (arg5.view.readAt (Elt F) (Rect.unit (s := S5120x2560) (k0_off2 k) S640x2560.size (k0_off2_inb k)).toLoadRect X5)) v8 (arg14.view.readAt (Elt F) (Rect.unit (s := S8x4x160x128) (k0_off19 k) S1x1x160x128.size (k0_off19_inb k)).toLoadRect X14) 480 0 slices_S640x256_o480_0_S160x128 slices_S1x256_o0_0_S1x128)⟩,
       ⟨Rect.unit (s := S8x1x4x256) (k0_off18 k) S1x1x1x128.size (k0_off18_inb k), upBlk (scaled (k0_pay90 (k0_pay2 v5) (arg5.view.readAt (Elt F) (Rect.unit (s := S5120x2560) (k0_off2 k) S640x2560.size (k0_off2_inb k)).toLoadRect X5)) v8 (arg14.view.readAt (Elt F) (Rect.unit (s := S8x4x160x128) (k0_off14 k) S1x1x160x128.size (k0_off14_inb k)).toLoadRect X14) 320 128 slices_S640x256_o320_128_S160x128 slices_S1x256_o0_128_S1x128)⟩,
       ⟨Rect.unit (s := S8x1x4x256) (k0_off16 k) S1x1x1x128.size (k0_off16_inb k), upBlk (scaled (k0_pay90 (k0_pay2 v5) (arg5.view.readAt (Elt F) (Rect.unit (s := S5120x2560) (k0_off2 k) S640x2560.size (k0_off2_inb k)).toLoadRect X5)) v8 (arg14.view.readAt (Elt F) (Rect.unit (s := S8x4x160x128) (k0_off14 k) S1x1x160x128.size (k0_off14_inb k)).toLoadRect X14) 320 0 slices_S640x256_o320_0_S160x128 slices_S1x256_o0_0_S1x128)⟩,
       ⟨Rect.unit (s := S8x1x4x256) (k0_off13 k) S1x1x1x128.size (k0_off13_inb k), upBlk (scaled (k0_pay90 (k0_pay2 v5) (arg5.view.readAt (Elt F) (Rect.unit (s := S5120x2560) (k0_off2 k) S640x2560.size (k0_off2_inb k)).toLoadRect X5)) v8 (arg14.view.readAt (Elt F) (Rect.unit (s := S8x4x160x128) (k0_off9 k) S1x1x160x128.size (k0_off9_inb k)).toLoadRect X14) 160 128 slices_S640x256_o160_128_S160x128 slices_S1x256_o0_128_S1x128)⟩,
       ⟨Rect.unit (s := S8x1x4x256) (k0_off11 k) S1x1x1x128.size (k0_off11_inb k), upBlk (scaled (k0_pay90 (k0_pay2 v5) (arg5.view.readAt (Elt F) (Rect.unit (s := S5120x2560) (k0_off2 k) S640x2560.size (k0_off2_inb k)).toLoadRect X5)) v8 (arg14.view.readAt (Elt F) (Rect.unit (s := S8x4x160x128) (k0_off9 k) S1x1x160x128.size (k0_off9_inb k)).toLoadRect X14) 160 0 slices_S640x256_o160_0_S160x128 slices_S1x256_o0_0_S1x128)⟩,
       ⟨Rect.unit (s := S8x1x4x256) (k0_off8 k) S1x1x1x128.size (k0_off8_inb k), upBlk (scaled (k0_pay90 (k0_pay2 v5) (arg5.view.readAt (Elt F) (Rect.unit (s := S5120x2560) (k0_off2 k) S640x2560.size (k0_off2_inb k)).toLoadRect X5)) v8 (arg14.view.readAt (Elt F) (Rect.unit (s := S8x4x160x128) (k0_off3 k) S1x1x160x128.size (k0_off3_inb k)).toLoadRect X14) 0 128 slices_S640x256_o0_128_S160x128 slices_S1x256_o0_128_S1x128)⟩,
       ⟨Rect.unit (s := S8x1x4x256) (k0_off6 k) S1x1x1x128.size (k0_off6_inb k), upBlk (scaled (k0_pay90 (k0_pay2 v5) (arg5.view.readAt (Elt F) (Rect.unit (s := S5120x2560) (k0_off2 k) S640x2560.size (k0_off2_inb k)).toLoadRect X5)) v8 (arg14.view.readAt (Elt F) (Rect.unit (s := S8x4x160x128) (k0_off3 k) S1x1x160x128.size (k0_off3_inb k)).toLoadRect X14) 0 0 slices_S640x256_o0_0_S160x128 slices_S1x256_o0_0_S1x128)⟩] := by
  unfold tripL_k0_t1 trip_k0_t1; dsimp only
  rfl

end Cert.KernelIdeal.Exact

end
-- ==== Proof.Math.lean ====
module

public import Idealize.ShloMosaic.PureOps.Ideal.Laws
public import Idealize.ShloMosaic.Lib.IndicatorCount
public import Idealize.ShloMosaic.Lib.ValueIdxCore

@[expose] public section

noncomputable section

namespace Cert.Spec

open Idealize.ShloMosaic

/-! # The quantiser on one column, over the extended reals

`amax`, `ex`, `code` and `scale` say what the reference computes for a column of 160 values; `kexp` is the exponent as
the kernel computes it, a count of the powers of two that the quotient reaches, and the theorems at the end say that the
two give the same scales and the same codes. -/

/-- The float constant 1/448 of both programs. -/
def inv448 : EReal := Ideal.ofBits .f32 0x3B124925#32

/-- The largest magnitude of a column. -/
def amax (v : Fin 160 → EReal) : EReal :=
  Finset.univ.fold max (Ideal.ofBits .f32 0xFF800000#32) fun d => max (v d) (-v d)

/-- The exponent of a magnitude, as the reference takes it. -/
def ex (a : EReal) : EReal :=
  if a = 0 ∨ a * inv448 = ⊤ then 0 else
    min (Ideal.ofBits .f32 0x42FC0000#32) (max (Ideal.ofBits .f32 0xC2FC0000#32)
      (Ideal.liftRound Int.floor (Ideal.div (Ideal.log (a * inv448)) (Ideal.log (Ideal.ofBits .f32 0x40000000#32)))
        + Ideal.ofBits .f32 0x3F800000#32))

/-- A column's scale. -/
def scale (v : Fin 160 → EReal) : EReal := Ideal.exp2 (ex (amax v))

/-- A value clipped to the range of the codes. -/
def clip (x : EReal) : EReal := min (Ideal.ofBits .f32 0x43E00000#32) (max (Ideal.ofBits .f32 0xC3E00000#32) x)

/-- A column's codes. -/
def code (v : Fin 160 → EReal) (d : Fin 160) : EReal :=
  clip (v d * Ideal.exp2 (Ideal.ofBits .f32 0x00000000#32 - ex (amax v)))

/-- The root-mean-square norm of a column, times the norm's weights. -/
def normCol (y g : Fin 160 → EReal) (d : Fin 160) : EReal :=
  y d * Ideal.rsqrt (Ideal.div (∑ d, y d * y d) (Ideal.ofBits .f32 0x43200000#32) + Ideal.ofBits .f32 0x3727C5AC#32) * g d

/-- The exponent of a quotient, as the kernel takes it. -/
def kexp (q : EReal) : BitVec 32 :=
  Scalar.select (IntOp.ori (Ideal.cmp .oeq q (Ideal.ofBits .f32 0x00000000#32))
      (IntOp.xori (Ideal.cmp .olt q (Ideal.ofBits .f32 0x7F800000#32)) 1#1)) 0#32
    (IntOp.subi (Finset.univ.fold IntOp.addi 0#32 fun k : Fin 252 =>
      (Ideal.cmp .oge q (Ideal.ofBits .f32 (IntOp.shli .vector (IntOp.addi (BitVec.ofNat 32 k) 1#32) 23#32))).setWidth 32) 126#32)

/-- The power of two a kernel's exponent stands for. -/
def kup (q : EReal) : EReal := Ideal.ofBits .f32 (IntOp.shli .vector (IntOp.addi 127#32 (kexp q)) 23#32)

/-- Its inverse. -/
def kdown (q : EReal) : EReal := Ideal.ofBits .f32 (IntOp.shli .vector (IntOp.subi 127#32 (kexp q)) 23#32)

theorem ofBits_top : Ideal.ofBits .f32 0x7F800000#32 = ⊤ := by simp [Ideal.ofBits, Ideal.ieee]

theorem ofBits_bot : Ideal.ofBits .f32 0xFF800000#32 = ⊥ := by simp [Ideal.ofBits, Ideal.ieee]

theorem ofBits_one : Ideal.ofBits .f32 0x3F800000#32 = ((1 : ℝ) : EReal) := by
  simp [Ideal.ofBits, Ideal.ieee]; rw [← EReal.coe_mul, ← EReal.coe_one]; norm_num

theorem ofBits_two : Ideal.ofBits .f32 0x40000000#32 = ((2 : ℝ) : EReal) := by
  simp [Ideal.ofBits, Ideal.ieee]; rw [← EReal.coe_mul]; norm_num

theorem ofBits_126 : Ideal.ofBits .f32 0x42FC0000#32 = ((126 : ℝ) : EReal) := by
  simp [Ideal.ofBits, Ideal.ieee]; rw [← EReal.coe_mul]; norm_num

theorem ofBits_neg126 : Ideal.ofBits .f32 0xC2FC0000#32 = ((-126 : ℝ) : EReal) := by
  simp [Ideal.ofBits, Ideal.ieee]; rw [← EReal.coe_mul]; norm_num

theorem inv448_coe : ∃ r : ℝ, 0 < r ∧ inv448 = (r : EReal) := by
  refine ⟨9586981 * (2 : ℝ) ^ (-32 : ℤ), by positivity, ?_⟩
  simp [inv448, Ideal.ofBits, Ideal.ieee]

/-- A word with exponent field `n` and nothing else is the power `n - 127` of two. -/
theorem ieee_pow (b : BitVec 32) (n : ℕ) (h0 : 0 < n) (h : n < 255) (h1 : b.extractLsb' 31 1 = 0#1)
    (h2 : (b.extractLsb' 23 8).toNat = n) (h3 : (b.extractLsb' 0 23).toNat = 0) :
    Ideal.ieee 8 23 b = (((2 : ℝ) ^ ((n : ℤ) - 127) : ℝ) : EReal) := by
  have e1 : ¬ n = 255 := by omega
  have e2 : ¬ n = 0 := by omega
  have e3 : (0#1 == 1#1) = false := rfl
  simp only [Ideal.ieee, Nat.reduceAdd, h1, h2, h3, Nat.reducePow, Nat.reduceSub, e1, e2, e3, if_false, Bool.false_eq_true]
  refine EReal.coe_eq_coe_iff.mpr ?_
  have : ((2 : ℝ) ^ ((n : ℤ) - 127)) = 8388608 * 2 ^ ((n : ℤ) - 127 - 23) := by
    rw [show (8388608 : ℝ) = 2 ^ (23 : ℤ) by norm_num, ← zpow_add₀ (by norm_num)]; congr 1; ring
  rw [this]
  norm_num

theorem ofBits_pow (n : ℕ) (h0 : 0 < n) (h : n < 255) :
    Ideal.ofBits .f32 (IntOp.shli .vector (BitVec.ofNat 32 n) 23#32) = (((2 : ℝ) ^ ((n : ℤ) - 127) : ℝ) : EReal) := by
  have key : ∀ n : Fin 255, (IntOp.shli .vector (BitVec.ofNat 32 n) 23#32).extractLsb' 31 1 = 0#1
      ∧ ((IntOp.shli .vector (BitVec.ofNat 32 n) 23#32).extractLsb' 23 8).toNat = n.val
      ∧ ((IntOp.shli .vector (BitVec.ofNat 32 n) 23#32).extractLsb' 0 23).toNat = 0 := by decide +kernel
  obtain ⟨h1, h2, h3⟩ := key ⟨n, h⟩
  exact ieee_pow _ n h0 h h1 h2 h3

theorem amax_nonneg (v : Fin 160 → EReal) : 0 ≤ amax v := by
  unfold amax
  have h : max (v 0) (-v 0) ≤ Finset.univ.fold max (Ideal.ofBits .f32 0xFF800000#32) fun d => max (v d) (-v d) := by
    rw [Finset.le_fold_max]; exact .inr ⟨0, Finset.mem_univ _, le_rfl⟩
  refine le_trans ?_ h
  rcases le_total 0 (v 0) with h | h
  · exact le_max_of_le_left h
  · exact le_max_of_le_right (EReal.neg_nonneg.mpr h)

/-- A power of two is at most a positive real exactly where its exponent is at most the floor of the logarithm. -/
theorem zpow_le_iff {q : ℝ} (hq : 0 < q) (m : ℤ) : (2 : ℝ) ^ m ≤ q ↔ m ≤ ⌊Real.log q / Real.log 2⌋ := by
  have h2 : 0 < Real.log 2 := Real.log_pos (by norm_num)
  rw [Int.le_floor, le_div_iff₀ h2, ← Real.log_zpow, Real.log_le_log_iff (by positivity) hq]

theorem cmp_one {p : Prop} [Decidable p] : BitVec.ofBool (decide p) = 1#1 ↔ p := by
  by_cases h : p <;> simp [h]

/-- The number of the thresholds a positive real reaches. -/
theorem count {q : ℝ} (hq : 0 < q) :
    (Finset.univ.filter fun k : Fin 252 => Ideal.cmp .oge (q : EReal)
      (Ideal.ofBits .f32 (IntOp.shli .vector (IntOp.addi (BitVec.ofNat 32 k) 1#32) 23#32)) = 1#1).card
      = min (⌊Real.log q / Real.log 2⌋ + 127).toNat 252 := by
  have e : ∀ k : Fin 252, Ideal.cmp .oge (q : EReal)
      (Ideal.ofBits .f32 (IntOp.shli .vector (IntOp.addi (BitVec.ofNat 32 k) 1#32) 23#32)) = 1#1
      ↔ k.val < (⌊Real.log q / Real.log 2⌋ + 127).toNat := by
    intro k
    have hk := k.isLt
    have h1 : IntOp.addi (BitVec.ofNat 32 k) 1#32 = BitVec.ofNat 32 (k.val + 1) := by
      simp [IntOp.addi, BitVec.ofNat_add]
    rw [h1, ofBits_pow _ (by omega) (by omega)]
    simp only [Ideal.cmp]
    rw [cmp_one, EReal.coe_le_coe_iff, zpow_le_iff hq]
    push_cast
    omega
  simp only [e]
  generalize (⌊Real.log q / Real.log 2⌋ + 127).toNat = n
  rw [Fin.card_filter_val_lt, min_comm]

/-- The kernel's exponent is an integer from -126 to 126, and the reference's. -/
theorem kexp_eq {a : EReal} (ha : 0 ≤ a) :
    ∃ z : ℤ, -126 ≤ z ∧ z ≤ 126 ∧ kexp (a * inv448) = BitVec.ofInt 32 z ∧ ex a = ((z : ℝ) : EReal) := by
  obtain ⟨c, hc, hcq⟩ := inv448_coe
  have hsel : ∀ (p : BitVec 1) (x : BitVec 32), p = 1#1 → Scalar.select p 0#32 x = BitVec.ofInt 32 0 := by
    intro p x h; rw [h]; rfl
  unfold kexp ex
  rw [hcq]
  rcases eq_or_ne a 0 with rfl | h0
  · refine ⟨0, by norm_num, by norm_num, hsel _ _ ?_, by simp⟩
    simp [Ideal.cmp, IntOp.ori]
    generalize IntOp.xori _ _ = b
    revert b; decide
  rcases eq_or_ne a ⊤ with rfl | ht
  · have htop : (⊤ : EReal) * (c : EReal) = ⊤ := EReal.top_mul_coe_of_pos hc
    refine ⟨0, by norm_num, by norm_num, hsel _ _ ?_, by simp [htop]⟩
    rw [htop, ofBits_top]
    simp [Ideal.cmp, IntOp.ori, IntOp.xori]
  induction a using EReal.rec with
  | bot => exact absurd ha (by simp)
  | top => exact absurd rfl ht
  | coe r =>
    have hr : 0 < r := lt_of_le_of_ne (EReal.coe_nonneg.mp ha) (by rintro rfl; exact h0 rfl)
    have hq : 0 < r * c := mul_pos hr hc
    rw [← EReal.coe_mul, ofBits_top, Ideal.ofBits_zero_f32]
    have hne : ((r * c : ℝ) : EReal) ≠ 0 := by
      rw [← EReal.coe_zero]; exact fun h => hq.ne' (EReal.coe_eq_coe_iff.mp h)
    refine ⟨min 126 (max (-126) (⌊Real.log (r * c) / Real.log 2⌋ + 1)), by omega, by omega, ?_, ?_⟩
    · have hb : IntOp.ori (Ideal.cmp .oeq ((r * c : ℝ) : EReal) 0) (IntOp.xori (Ideal.cmp .olt ((r * c : ℝ) : EReal) ⊤) 1#1) = 0#1 := by
        simp only [Ideal.cmp, hne, EReal.coe_lt_top]
        decide
      rw [hb, ValueIdx.select_zero, IndicatorCount.fold_addi_setWidth_eq_card, count hq]
      generalize ⌊Real.log (r * c) / Real.log 2⌋ = f
      have key : ∀ n : Fin 253, IntOp.subi (BitVec.ofNat 32 n) 126#32 = BitVec.ofInt 32 ((n.val : ℤ) - 126) := by decide +kernel
      have h2 : min 126 (max (-126) (f + 1)) = ((min (f + 127).toNat 252 : ℕ) : ℤ) - 126 := by omega
      rw [h2]
      exact key ⟨min (f + 127).toNat 252, by omega⟩
    · rw [if_neg (by
        rintro (h | h)
        · exact h0 h
        · exact EReal.coe_ne_top _ h)]
      rw [ofBits_one, ofBits_two, ofBits_126, ofBits_neg126, Ideal.log_coe, Ideal.log_coe, if_neg (by linarith), if_neg (by norm_num),
        Ideal.div_coe (Real.log_pos (by norm_num)).ne', ← EReal.coe_mul, Ideal.liftRound_coe, ← EReal.coe_add, mul_one_div]
      rw [show (((min 126 (max (-126) (⌊Real.log (r * c) / Real.log 2⌋ + 1)) : ℤ) : ℝ)) = min 126 (max (-126) ((⌊Real.log (r * c) / Real.log 2⌋ : ℝ) + 1)) by push_cast; rfl]
      rw [(EReal.coe_strictMono.monotone).map_min, (EReal.coe_strictMono.monotone).map_max]

theorem toInt_shift {z : ℤ} (h1 : -126 ≤ z) (h2 : z ≤ 126) :
    IntOp.addi 127#32 (BitVec.ofInt 32 z) = BitVec.ofNat 32 (127 + z).toNat
      ∧ IntOp.subi 127#32 (BitVec.ofInt 32 z) = BitVec.ofNat 32 (127 - z).toNat := by
  have hz : (127#32).toInt = 127 := by decide
  constructor
  · apply BitVec.eq_of_toInt_eq
    simp only [IntOp.addi]
    rw [BitVec.toInt_add, BitVec.toInt_ofInt, hz, BitVec.toInt_ofNat']
    have : ((127 + z).toNat : ℤ) = 127 + z := by omega
    rw [this]; simp only [Int.bmod_def]; omega
  · apply BitVec.eq_of_toInt_eq
    simp only [IntOp.subi]
    rw [BitVec.toInt_sub, BitVec.toInt_ofInt, hz, BitVec.toInt_ofNat']
    have : ((127 - z).toNat : ℤ) = 127 - z := by omega
    rw [this]; simp only [Int.bmod_def]; omega

/-- The kernel's scale is the reference's. -/
theorem kup_eq (v : Fin 160 → EReal) : kup (amax v * inv448) = scale v := by
  obtain ⟨z, h1, h2, hk, he⟩ := kexp_eq (amax_nonneg v)
  unfold kup scale
  rw [hk, he, (toInt_shift h1 h2).1, ofBits_pow _ (by omega) (by omega), Ideal.exp2_coe]
  congr 1
  have : (((127 + z).toNat : ℤ) - 127) = z := by omega
  rw [this]
  exact (Real.rpow_intCast 2 z).symm

/-- The kernel's inverse scale is the reference's. -/
theorem kdown_eq (v : Fin 160 → EReal) :
    kdown (amax v * inv448) = Ideal.exp2 (Ideal.ofBits .f32 0x00000000#32 - ex (amax v)) := by
  obtain ⟨z, h1, h2, hk, he⟩ := kexp_eq (amax_nonneg v)
  unfold kdown
  rw [hk, he, (toInt_shift h1 h2).2, ofBits_pow _ (by omega) (by omega), Ideal.ofBits_zero_f32, zero_sub, ← EReal.coe_neg, Ideal.exp2_coe]
  congr 1
  have : (((127 - z).toNat : ℤ) - 127) = -z := by omega
  rw [this]
  have := (Real.rpow_intCast 2 (-z)).symm
  push_cast at this
  exact this

/-- The kernel's code is the reference's. -/
theorem kcode_eq (v : Fin 160 → EReal) (d : Fin 160) : clip (v d * kdown (amax v * inv448)) = code v d := by
  rw [kdown_eq]; rfl

end Cert.Spec

end
-- ==== Proof.KIPoint.lean ====
module

public import proofs.«01_k».proof.Proof.KITrip
public import proofs.«01_k».proof.Proof.Math
public import Idealize.ShloMosaic.Lib.MatmulPlain
public import Idealize.ShloMosaic.Lib.Pointwise.Tactic
public import Idealize.ShloMosaic.Lib.Pointwise.Reduce
public import Idealize.ShloMosaic.Lib.Pointwise.Reshape
public import Idealize.ShloMosaic.Lib.Pipeline.Value
public import Idealize.ShloMosaic.Lib.Pointwise.IndexBridge

@[expose] public section

set_option maxRecDepth 16384

noncomputable section

namespace Cert.KernelIdeal.Exact

open Cert.KernelIdeal Cert.KernelIdeal.Gen
open Idealize.ShloMosaic Idealize.ShloMosaic.TcCoe Idealize.ShloMosaic.Pipeline

/-! # One pair's block at an index, over the extended reals -/

theorem scaled_apply (m : FVec Ideal S640x256 .f32) (v8 : Vec Ideal S1x256 .f32) (s : Vec Ideal S1x1x160x128 .f32) (o c : ℕ)
    (ho : S640x256.Slices ![o, c] S160x128) (hc : S1x256.Slices ![0, c] S1x128) (d : Fin 160) (t : Fin 128)
    (h1 : o + d.val < 640) (h2 : c + t.val < 256) :
    scaled m v8 s o c ho hc (ix2 d t)
      = m (ix2 ⟨o + d.val, h1⟩ ⟨c + t.val, h2⟩) * v8 (ix2 0 ⟨c + t.val, h2⟩) * s (ix4 0 0 d t) := by
  unfold scaled
  pointwise

theorem normed_apply (y : FVec Ideal S160x128 .f32) (g : Vec Ideal S1x160x128 .f32) (d : Fin 160) (t : Fin 128) :
    normed y g (ix2 d t) = Spec.normCol (fun d => y (ix2 d t)) (fun d => g (ix3 0 d t)) d := by
  unfold normed Spec.normCol
  pointwise

theorem quot_apply (n : FVec Ideal S160x128 .f32) (t : Fin 128) :
    quot n (ix2 0 t) = Spec.amax (fun d => n (ix2 d t)) * Spec.inv448 := by
  unfold quot Spec.amax Spec.inv448
  pointwise
  rfl

theorem expo_apply (q : FVec Ideal S1x128 .f32) (t : Fin 128) : expo q (ix2 0 t) = Spec.kexp (q (ix2 0 t)) := by
  unfold expo Spec.kexp
  pointwise
  rfl

theorem mm_apply (v6 : FVec Ideal S256x2560 .fp8e4m3) (w : Vec Ideal S640x2560 .fp8e4m3) (r : Fin 640) (t : Fin 256) :
    k0_pay89 v6 w (ix2 r t) = ∑ e : Fin 2560, w (ix2 r e) * v6 (ix2 t e) := by
  unfold k0_pay89
  rw [shapeCast_self, ix2_eq_valueIdx]
  refine (Ideal.matmul_transposedRhs_apply none w v6 _ r t).trans ?_
  rw [ValueIdx.constant_apply]
  simp only [Ideal.ofBits_zero_f32, zero_add, ix2_eq_valueIdx]

theorem x_apply (v5 : Vec Ideal S1x256x2560 .fp8e4m3) (t : Fin 256) (e : Fin 2560) :
    k0_pay2 v5 (ix2 t e) = v5 (ix3 0 t e) := by
  unfold k0_pay2
  pointwise

theorem v_apply (v6 : FVec Ideal S256x2560 .fp8e4m3) (w : Vec Ideal S640x2560 .fp8e4m3) : k0_pay90 v6 w = k0_pay89 v6 w := rfl

theorem up_apply (q : FVec Ideal S1x128 .f32) (t : Fin 128) : up q (ix2 0 t) = Spec.kup (q (ix2 0 t)) := by
  unfold up Spec.kup
  rw [← expo_apply]
  pointwise

theorem down_apply (q : FVec Ideal S1x128 .f32) (t : Fin 128) : down q (ix2 0 t) = Spec.kdown (q (ix2 0 t)) := by
  unfold down Spec.kdown
  rw [← expo_apply]
  pointwise

/-- A block's codes are its columns' codes. -/
theorem codesBlk_apply (n : FVec Ideal S160x128 .f32) (d : Fin 160) (t : Fin 128) :
    codesBlk n (ix5 0 0 0 d t) = Spec.code (fun d => n (ix2 d t)) d := by
  rw [← Spec.kcode_eq, ← quot_apply, ← down_apply]
  unfold codesBlk Spec.clip
  pointwise

/-- A block's scales are its columns' scales. -/
theorem upBlk_apply (n : FVec Ideal S160x128 .f32) (t : Fin 128) :
    upBlk n (ix4 0 0 0 t) = Spec.scale (fun d => n (ix2 d t)) := by
  rw [← Spec.kup_eq, ← quot_apply, ← up_apply]
  unfold upBlk
  pointwise

end Cert.KernelIdeal.Exact

end
-- ==== Proof.KIValue.lean ====
module

public import proofs.«01_k».proof.Proof.KIPoint
public import Idealize.ShloMosaic.Lib.Pipeline.ValueKit.Geometry

@[expose] public section

set_option maxRecDepth 16384

noncomputable section

namespace Cert.KernelIdeal.Exact

open Cert.KernelIdeal Cert.KernelIdeal.Gen
open Idealize.ShloMosaic Idealize.ShloMosaic.TcCoe Idealize.ShloMosaic.Pipeline

/-! # What one grid point leaves in the four result buffers

A column is the 160 values of one layer, one head and one token. The four functions below give the results' buffers
from the blocks of the operands, and the piece lemmas say that each written block is a block of them. -/

/-- One column of a projection, scaled. -/
def kcol (W : Vec Ideal S5120x2560 .fp8e4m3) (x : Vec Ideal S1x256x2560 .fp8e4m3) (xs : Vec Ideal S1x256 .f32)
    (s : Vec Ideal S8x4x160 .f32) (l : Fin 8) (h : Fin 4) (j : Fin 256) (d : Fin 160) : EReal :=
  (∑ e : Fin 2560, W (ix2 ⟨640 * l.val + (160 * h.val + d.val), by omega⟩ e) * x (ix3 0 j e)) * xs (ix2 0 j) * s (ix3 l h d)

/-- The norm's weights of one layer. -/
def gcol (g : Vec Ideal S8x160 .f32) (l : Fin 8) (d : Fin 160) : EReal := g (ix2 l d)

/-- The codes a grid point leaves, of a column function. -/
def codesOf (col : Fin 8 → Fin 4 → Fin 256 → Fin 160 → EReal) : Vec Ideal S8x1x4x160x256 .fp8e4m3 :=
  fun y => Spec.code (col (y 0) (y 2) (y 4)) (y 3)

/-- The scales a grid point leaves, of a column function. -/
def scalesOf (col : Fin 8 → Fin 4 → Fin 256 → Fin 160 → EReal) : Vec Ideal S8x1x4x256 .f32 :=
  fun y => Spec.scale (col (y 0) (y 2) (y 3))

/-- The scratch that holds a table of weight scales, every lane alike. -/
def lanes4 (s : Vec Ideal S8x4x160 .f32) : Vec Ideal S8x4x160x128 .f32 := fun i => s (ix3 (i 0) (i 1) (i 2))

/-- The scratch that holds the norm's weights, every lane alike. -/
def lanes3 (g : Vec Ideal S8x160 .f32) : Vec Ideal S8x160x128 .f32 := fun i => g (ix2 (i 0) (i 1))

variable (W : Vec Ideal S5120x2560 .fp8e4m3) (x : Vec Ideal S1x256x2560 .fp8e4m3) (xs : Vec Ideal S1x256 .f32)
  (s : Vec Ideal S8x4x160 .f32) (g : Vec Ideal S8x160 .f32)

/-- The key columns: normalised. -/
def kcolN (l : Fin 8) (h : Fin 4) (j : Fin 256) : Fin 160 → EReal := Spec.normCol (kcol W x xs s l h j) (gcol g l)

/-- The scaled block of a pair at an index. -/
theorem block_apply (k : Fin 8) (h : Fin 4) (o c : ℕ) (ho : S640x256.Slices ![o, c] S160x128) (hc : S1x256.Slices ![0, c] S1x128)
    (ho' : o = 160 * h.val) (hc' : c + 128 ≤ 256) (offW : Fin 2 → ℕ) (inbW) (hW : offW = ![640 * k.val, 0])
    (offS : Fin 4 → ℕ) (inbS) (hS : offS = ![k.val, h.val, 0, 0]) (d : Fin 160) (t : Fin 128) :
    scaled (k0_pay89 (k0_pay2 x) (View.ld W (Rect.unit (s := S5120x2560) offW S640x2560.size inbW))) xs
      (View.ld (lanes4 s) (Rect.unit (s := S8x4x160x128) offS S1x1x160x128.size inbS)) o c ho hc (ix2 d t)
      = kcol W x xs s k h ⟨c + t.val, by omega⟩ d := by
  subst ho' hW hS
  rw [scaled_apply _ _ _ _ _ _ _ _ _ (by omega) (by omega), mm_apply]
  simp only [x_apply]
  unfold kcol lanes4
  pointwise

theorem codes_piece (col : Fin 8 → Fin 4 → Fin 256 → Fin 160 → EReal) (k : Fin 8) (h : Fin 4) (c : ℕ) (hc' : c + 128 ≤ 256)
    (n : FVec Ideal S160x128 .f32) (hn : ∀ d (t : Fin 128), n (ix2 d t) = col k h ⟨c + t.val, by omega⟩ d)
    (off : Fin 5 → ℕ) (inb) (hoff : off = ![k.val, 0, h.val, 0, c]) (y : S1x1x1x160x128.Idx) :
    codesBlk n y = codesOf col ((Rect.unit (s := S8x1x4x160x256) off S1x1x1x160x128.size inb).emb y) := by
  subst hoff
  have e : (Rect.unit (s := S8x1x4x160x256) ![k.val, 0, h.val, 0, c] S1x1x1x160x128.size inb).emb y
      = ix5 k 0 h (y 3) ⟨c + (y 4).val, by have : (y 4).val < 128 := (y 4).isLt; omega⟩ := by
    funext a; apply Fin.ext; rw [ValueKit.rect_emb_unit_val]
    have h0 : (y 0).val < 1 := (y 0).isLt
    have h1 : (y 1).val < 1 := (y 1).isLt
    have h2 : (y 2).val < 1 := (y 2).isLt
    fin_cases a <;> simp <;> omega
  have ey : y = ix5 0 0 0 (y 3) (y 4) := by
    funext a; apply Fin.ext
    have h0 : (y 0).val < 1 := (y 0).isLt
    have h1 : (y 1).val < 1 := (y 1).isLt
    have h2 : (y 2).val < 1 := (y 2).isLt
    fin_cases a <;> simp <;> omega
  rw [e]
  refine (congrArg (codesBlk n) ey).trans ((codesBlk_apply n (y 3) (y 4)).trans ?_)
  exact congrArg (fun f => Spec.code f (y 3)) (funext fun d => hn d (y 4))

theorem scales_piece (col : Fin 8 → Fin 4 → Fin 256 → Fin 160 → EReal) (k : Fin 8) (h : Fin 4) (c : ℕ) (hc' : c + 128 ≤ 256)
    (n : FVec Ideal S160x128 .f32) (hn : ∀ d (t : Fin 128), n (ix2 d t) = col k h ⟨c + t.val, by omega⟩ d)
    (off : Fin 4 → ℕ) (inb) (hoff : off = ![k.val, 0, h.val, c]) (y : S1x1x1x128.Idx) :
    upBlk n y = scalesOf col ((Rect.unit (s := S8x1x4x256) off S1x1x1x128.size inb).emb y) := by
  subst hoff
  have e : (Rect.unit (s := S8x1x4x256) ![k.val, 0, h.val, c] S1x1x1x128.size inb).emb y
      = ix4 k 0 h ⟨c + (y 3).val, by have : (y 3).val < 128 := (y 3).isLt; omega⟩ := by
    funext a; apply Fin.ext; rw [ValueKit.rect_emb_unit_val]
    have h0 : (y 0).val < 1 := (y 0).isLt
    have h1 : (y 1).val < 1 := (y 1).isLt
    have h2 : (y 2).val < 1 := (y 2).isLt
    fin_cases a <;> simp <;> omega
  have ey : y = ix4 0 0 0 (y 3) := by
    funext a; apply Fin.ext
    have h0 : (y 0).val < 1 := (y 0).isLt
    have h1 : (y 1).val < 1 := (y 1).isLt
    have h2 : (y 2).val < 1 := (y 2).isLt
    fin_cases a <;> simp <;> omega
  rw [e]
  refine (congrArg (upBlk n) ey).trans ((upBlk_apply n (y 3)).trans ?_)
  exact congrArg Spec.scale (funext fun d => hn d (y 3))

/-- The normalised block of a pair at an index. -/
theorem normed_block_apply (k : Fin 8) (h : Fin 4) (o c : ℕ) (ho : S640x256.Slices ![o, c] S160x128) (hc : S1x256.Slices ![0, c] S1x128)
    (ho' : o = 160 * h.val) (hc' : c + 128 ≤ 256) (offW : Fin 2 → ℕ) (inbW) (hW : offW = ![640 * k.val, 0])
    (offS : Fin 4 → ℕ) (inbS) (hS : offS = ![k.val, h.val, 0, 0]) (offG : Fin 3 → ℕ) (inbG) (hG : offG = ![k.val, 0, 0])
    (S : Vec Ideal S8x4x160x128 .f32) (eS : S = lanes4 s) (G : Vec Ideal S8x160x128 .f32) (eG : G = lanes3 g) (d : Fin 160) (t : Fin 128) :
    normed (scaled (k0_pay89 (k0_pay2 x) (View.ld W (Rect.unit (s := S5120x2560) offW S640x2560.size inbW))) xs
      (View.ld S (Rect.unit (s := S8x4x160x128) offS S1x1x160x128.size inbS)) o c ho hc)
      (View.ld G (Rect.unit (s := S8x160x128) offG S1x160x128.size inbG)) (ix2 d t)
      = kcolN W x xs s g k h ⟨c + t.val, by omega⟩ d := by
  subst eS eG
  rw [normed_apply]
  have e1 : (fun d => View.ld (lanes3 g) (Rect.unit (s := S8x160x128) offG S1x160x128.size inbG) (ix3 0 d t)) = gcol g k := by
    subst hG
    funext d
    unfold lanes3 gcol
    pointwise
  rw [e1]
  unfold kcolN
  exact congrArg (fun f => Spec.normCol f (gcol g k) d) (funext fun d => block_apply W x xs s k h o c ho hc ho' hc' offW inbW hW offS inbS hS d t)

/-- The values' block of a pair at an index. -/
theorem plain_block_apply (k : Fin 8) (h : Fin 4) (o c : ℕ) (ho : S640x256.Slices ![o, c] S160x128) (hc : S1x256.Slices ![0, c] S1x128)
    (ho' : o = 160 * h.val) (hc' : c + 128 ≤ 256) (offW : Fin 2 → ℕ) (inbW) (hW : offW = ![640 * k.val, 0])
    (offS : Fin 4 → ℕ) (inbS) (hS : offS = ![k.val, h.val, 0, 0])
    (S : Vec Ideal S8x4x160x128 .f32) (eS : S = lanes4 s) (d : Fin 160) (t : Fin 128) :
    scaled (k0_pay90 (k0_pay2 x) (View.ld W (Rect.unit (s := S5120x2560) offW S640x2560.size inbW))) xs
      (View.ld S (Rect.unit (s := S8x4x160x128) offS S1x1x160x128.size inbS)) o c ho hc (ix2 d t)
      = kcol W x xs s k h ⟨c + t.val, by omega⟩ d := by
  subst eS
  exact block_apply W x xs s k h o c ho hc ho' hc' offW inbW hW offS inbS hS d t

end Cert.KernelIdeal.Exact

end
-- ==== Proof.KILoop.lean ====
module

public import proofs.«01_k».proof.Proof.KIValue
public import Idealize.ShloMosaic.Lib.Pipeline.ReadBack

@[expose] public section

set_option maxRecDepth 16384

noncomputable section

namespace Cert.KernelIdeal.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! # What the loop leaves in the four result buffers -/

/-- A written block at offset zero of the second axis, in one head's half of the lanes, holds an index that lies there. -/
theorem mem_codes (off : Fin 5 → ℕ) (inb) (k h c : ℕ) (hoff : off = ![k, 0, h, 0, c]) (y : S8x1x4x160x256.Idx)
    (h0 : (y 0).val = k) (h2 : (y 2).val = h) (h4 : c ≤ (y 4).val ∧ (y 4).val < c + 128) :
    y ∈ (Rect.unit (s := S8x1x4x160x256) off S1x1x1x160x128.size inb).set := by
  subst hoff
  rw [Rect.mem_set_unit]
  intro a
  have h1 : (y 1).val < 1 := (y 1).isLt
  have h3 : (y 3).val < 160 := (y 3).isLt
  fin_cases a <;> simp <;> omega

theorem mem_scales (off : Fin 4 → ℕ) (inb) (k h c : ℕ) (hoff : off = ![k, 0, h, c]) (y : S8x1x4x256.Idx)
    (h0 : (y 0).val = k) (h2 : (y 2).val = h) (h3 : c ≤ (y 3).val ∧ (y 3).val < c + 128) :
    y ∈ (Rect.unit (s := S8x1x4x256) off S1x1x1x128.size inb).set := by
  subst hoff
  rw [Rect.mem_set_unit]
  intro a
  have h1 : (y 1).val < 1 := (y 1).isLt
  fin_cases a <;> simp <;> omega

theorem piecesOf_append {s : Shape} {e : EltTy} {G : s.Idx → Elt Ideal e} {L L' : List (View.Piece (Elt Ideal) s e)}
    (h : View.PiecesOf G L) (h' : View.PiecesOf G L') : View.PiecesOf G (L ++ L') := by
  induction L with
  | nil => exact h'
  | cons p L ih => exact ⟨h.1, ih h.2⟩

/-- Blocks of `G` that cover leave `G`. -/
theorem read_of_pieces {sp : Space} {s : Shape} {e : EltTy} (v : View sig .tc sp s e) (f : v.ty.Contents (Elt Ideal)) (G : s.Idx → Elt Ideal e)
    (L : List (View.Piece (Elt Ideal) s e)) (h : View.PiecesOf G L) (hc : ∀ y, ∃ p ∈ L, y ∈ p.1.set) :
    v.read (Elt Ideal) (v.writes (Elt Ideal) f L) = G := by
  rw [View.read_writes_eq_canon v f L hc]
  funext y
  exact View.canon_apply_of_pieces G L h.mem y (hc y)

/-- Every block a trip writes of the keys' codes is a block of the target. -/
theorem trip_pieces_k_codes (𝒱 : Variants) (c : Dev nD) (bd : Option 𝒱.V) (i : grid0.Coords) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (v5 : Vec Ideal S1x256x2560 .fp8e4m3) (v8 : Vec Ideal S1x256 .f32) (X4 : BufTy.Contents (Elt Ideal) arg4.view.ty) (X5 : BufTy.Contents (Elt Ideal) arg5.view.ty)
    (X13 : BufTy.Contents (Elt Ideal) arg13.view.ty) (X14 : BufTy.Contents (Elt Ideal) arg14.view.ty) (X15 : BufTy.Contents (Elt Ideal) arg15.view.ty)
    (x6 x7 : Vec Ideal S8x4x160 .f32) (x8 : Vec Ideal S8x160 .f32)
    (h13 : arg13.view.read (Elt Ideal) X13 = lanes4 x6) (h14 : arg14.view.read (Elt Ideal) X14 = lanes4 x7) (h15 : arg15.view.read (Elt Ideal) X15 = lanes3 x8) (k : Fin k0_t1_loop.trips) :
    View.PiecesOf (codesOf (kcolN (arg4.view.read (Elt Ideal) X4) v5 v8 x6 x8)) (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 k).1 := by
  rw [trip_k_codes]
  refine ⟨codes_piece _ ⟨k.val, k.isLt⟩ 3 128 (by norm_num) _ (normed_block_apply _ v5 v8 x6 x8 ⟨k.val, k.isLt⟩ 3 480 128 slices_S640x256_o480_128_S160x128 slices_S1x256_o0_128_S1x128 rfl (by norm_num) _ (k0_off2_inb k) (k0_off2_eq k) _ (k0_off19_inb k) (k0_off19_eq k) _ (k0_off4_inb k) (k0_off4_eq k) _ h13 _ h15) _ (k0_off22_inb k) (k0_off22_eq k),
    codes_piece _ ⟨k.val, k.isLt⟩ 3 0 (by norm_num) _ (normed_block_apply _ v5 v8 x6 x8 ⟨k.val, k.isLt⟩ 3 480 0 slices_S640x256_o480_0_S160x128 slices_S1x256_o0_0_S1x128 rfl (by norm_num) _ (k0_off2_inb k) (k0_off2_eq k) _ (k0_off19_inb k) (k0_off19_eq k) _ (k0_off4_inb k) (k0_off4_eq k) _ h13 _ h15) _ (k0_off20_inb k) (k0_off20_eq k),
    codes_piece _ ⟨k.val, k.isLt⟩ 2 128 (by norm_num) _ (normed_block_apply _ v5 v8 x6 x8 ⟨k.val, k.isLt⟩ 2 320 128 slices_S640x256_o320_128_S160x128 slices_S1x256_o0_128_S1x128 rfl (by norm_num) _ (k0_off2_inb k) (k0_off2_eq k) _ (k0_off14_inb k) (k0_off14_eq k) _ (k0_off4_inb k) (k0_off4_eq k) _ h13 _ h15) _ (k0_off17_inb k) (k0_off17_eq k),
    codes_piece _ ⟨k.val, k.isLt⟩ 2 0 (by norm_num) _ (normed_block_apply _ v5 v8 x6 x8 ⟨k.val, k.isLt⟩ 2 320 0 slices_S640x256_o320_0_S160x128 slices_S1x256_o0_0_S1x128 rfl (by norm_num) _ (k0_off2_inb k) (k0_off2_eq k) _ (k0_off14_inb k) (k0_off14_eq k) _ (k0_off4_inb k) (k0_off4_eq k) _ h13 _ h15) _ (k0_off15_inb k) (k0_off15_eq k),
    codes_piece _ ⟨k.val, k.isLt⟩ 1 128 (by norm_num) _ (normed_block_apply _ v5 v8 x6 x8 ⟨k.val, k.isLt⟩ 1 160 128 slices_S640x256_o160_128_S160x128 slices_S1x256_o0_128_S1x128 rfl (by norm_num) _ (k0_off2_inb k) (k0_off2_eq k) _ (k0_off9_inb k) (k0_off9_eq k) _ (k0_off4_inb k) (k0_off4_eq k) _ h13 _ h15) _ (k0_off12_inb k) (k0_off12_eq k),
    codes_piece _ ⟨k.val, k.isLt⟩ 1 0 (by norm_num) _ (normed_block_apply _ v5 v8 x6 x8 ⟨k.val, k.isLt⟩ 1 160 0 slices_S640x256_o160_0_S160x128 slices_S1x256_o0_0_S1x128 rfl (by norm_num) _ (k0_off2_inb k) (k0_off2_eq k) _ (k0_off9_inb k) (k0_off9_eq k) _ (k0_off4_inb k) (k0_off4_eq k) _ h13 _ h15) _ (k0_off10_inb k) (k0_off10_eq k),
    codes_piece _ ⟨k.val, k.isLt⟩ 0 128 (by norm_num) _ (normed_block_apply _ v5 v8 x6 x8 ⟨k.val, k.isLt⟩ 0 0 128 slices_S640x256_o0_128_S160x128 slices_S1x256_o0_128_S1x128 rfl (by norm_num) _ (k0_off2_inb k) (k0_off2_eq k) _ (k0_off3_inb k) (k0_off3_eq k) _ (k0_off4_inb k) (k0_off4_eq k) _ h13 _ h15) _ (k0_off7_inb k) (k0_off7_eq k),
    codes_piece _ ⟨k.val, k.isLt⟩ 0 0 (by norm_num) _ (normed_block_apply _ v5 v8 x6 x8 ⟨k.val, k.isLt⟩ 0 0 0 slices_S640x256_o0_0_S160x128 slices_S1x256_o0_0_S1x128 rfl (by norm_num) _ (k0_off2_inb k) (k0_off2_eq k) _ (k0_off3_inb k) (k0_off3_eq k) _ (k0_off4_inb k) (k0_off4_eq k) _ h13 _ h15) _ (k0_off5_inb k) (k0_off5_eq k), trivial⟩

/-- And every block the loop has written before trip `n`. -/
theorem pieces_k_codes (𝒱 : Variants) (c : Dev nD) (bd : Option 𝒱.V) (i : grid0.Coords) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (v5 : Vec Ideal S1x256x2560 .fp8e4m3) (v8 : Vec Ideal S1x256 .f32) (X4 : BufTy.Contents (Elt Ideal) arg4.view.ty) (X5 : BufTy.Contents (Elt Ideal) arg5.view.ty)
    (X13 : BufTy.Contents (Elt Ideal) arg13.view.ty) (X14 : BufTy.Contents (Elt Ideal) arg14.view.ty) (X15 : BufTy.Contents (Elt Ideal) arg15.view.ty)
    (x6 x7 : Vec Ideal S8x4x160 .f32) (x8 : Vec Ideal S8x160 .f32)
    (h13 : arg13.view.read (Elt Ideal) X13 = lanes4 x6) (h14 : arg14.view.read (Elt Ideal) X14 = lanes4 x7) (h15 : arg15.view.read (Elt Ideal) X15 = lanes3 x8) (n : ℕ) (hn : n ≤ k0_t1_loop.trips) :
    View.PiecesOf (codesOf (kcolN (arg4.view.read (Elt Ideal) X4) v5 v8 x6 x8)) (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 n).1 := by
  induction n with
  | zero => exact trivial
  | succ n ih =>
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 ⟨n, hn⟩]
    exact piecesOf_append (trip_pieces_k_codes 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 x6 x7 x8 h13 h14 h15 ⟨n, hn⟩) (ih (Nat.le_of_succ_le hn))

/-- The blocks of the trips before `n` cover the layers before `n`. -/
theorem cover_k_codes (𝒱 : Variants) (c : Dev nD) (bd : Option 𝒱.V) (i : grid0.Coords) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (v5 : Vec Ideal S1x256x2560 .fp8e4m3) (v8 : Vec Ideal S1x256 .f32) (X4 : BufTy.Contents (Elt Ideal) arg4.view.ty) (X5 : BufTy.Contents (Elt Ideal) arg5.view.ty)
    (X13 : BufTy.Contents (Elt Ideal) arg13.view.ty) (X14 : BufTy.Contents (Elt Ideal) arg14.view.ty) (X15 : BufTy.Contents (Elt Ideal) arg15.view.ty) (n : ℕ) (hn : n ≤ k0_t1_loop.trips) (y : S8x1x4x160x256.Idx) (hy : (y 0).val < n) :
    ∃ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 n).1, y ∈ p.1.set := by
  induction n with
  | zero => omega
  | succ n ih =>
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 ⟨n, hn⟩]
    by_cases h : (y 0).val < n
    · obtain ⟨p, hp, hm⟩ := ih (Nat.le_of_succ_le hn) h
      exact ⟨p, List.mem_append_right _ hp, hm⟩
    have h0 : (y 0).val = n := by omega
    have h2 : (y 2).val < 4 := (y 2).isLt
    have h4 : (y 4).val < 256 := (y 4).isLt
    show ∃ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 ⟨n, hn⟩).1 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 n).1, y ∈ p.1.set
    rw [trip_k_codes]
    by_cases hl : (y 4).val < 128
    · rcases (by omega : (y 2).val = 0 ∨ (y 2).val = 1 ∨ (y 2).val = 2 ∨ (y 2).val = 3) with h | h | h | h
      · refine ⟨_, List.mem_append_left _ (List.getElem_mem (n := 7) (by simp)), ?_⟩
        exact mem_codes _ (k0_off5_inb ⟨n, hn⟩) _ _ _ (k0_off5_eq ⟨n, hn⟩) y h0 h (by omega)
      · refine ⟨_, List.mem_append_left _ (List.getElem_mem (n := 5) (by simp)), ?_⟩
        exact mem_codes _ (k0_off10_inb ⟨n, hn⟩) _ _ _ (k0_off10_eq ⟨n, hn⟩) y h0 h (by omega)
      · refine ⟨_, List.mem_append_left _ (List.getElem_mem (n := 3) (by simp)), ?_⟩
        exact mem_codes _ (k0_off15_inb ⟨n, hn⟩) _ _ _ (k0_off15_eq ⟨n, hn⟩) y h0 h (by omega)
      · refine ⟨_, List.mem_append_left _ (List.getElem_mem (n := 1) (by simp)), ?_⟩
        exact mem_codes _ (k0_off20_inb ⟨n, hn⟩) _ _ _ (k0_off20_eq ⟨n, hn⟩) y h0 h (by omega)
    · rcases (by omega : (y 2).val = 0 ∨ (y 2).val = 1 ∨ (y 2).val = 2 ∨ (y 2).val = 3) with h | h | h | h
      · refine ⟨_, List.mem_append_left _ (List.getElem_mem (n := 6) (by simp)), ?_⟩
        exact mem_codes _ (k0_off7_inb ⟨n, hn⟩) _ _ _ (k0_off7_eq ⟨n, hn⟩) y h0 h (by omega)
      · refine ⟨_, List.mem_append_left _ (List.getElem_mem (n := 4) (by simp)), ?_⟩
        exact mem_codes _ (k0_off12_inb ⟨n, hn⟩) _ _ _ (k0_off12_eq ⟨n, hn⟩) y h0 h (by omega)
      · refine ⟨_, List.mem_append_left _ (List.getElem_mem (n := 2) (by simp)), ?_⟩
        exact mem_codes _ (k0_off17_inb ⟨n, hn⟩) _ _ _ (k0_off17_eq ⟨n, hn⟩) y h0 h (by omega)
      · refine ⟨_, List.mem_append_left _ (List.getElem_mem (n := 0) (by simp)), ?_⟩
        exact mem_codes _ (k0_off22_inb ⟨n, hn⟩) _ _ _ (k0_off22_eq ⟨n, hn⟩) y h0 h (by omega)

/-- What the loop leaves of the keys' codes. -/
theorem left_k_codes (𝒱 : Variants) (c : Dev nD) (bd : Option 𝒱.V) (i : grid0.Coords) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (v5 : Vec Ideal S1x256x2560 .fp8e4m3) (v8 : Vec Ideal S1x256 .f32) (X4 : BufTy.Contents (Elt Ideal) arg4.view.ty) (X5 : BufTy.Contents (Elt Ideal) arg5.view.ty)
    (X13 : BufTy.Contents (Elt Ideal) arg13.view.ty) (X14 : BufTy.Contents (Elt Ideal) arg14.view.ty) (X15 : BufTy.Contents (Elt Ideal) arg15.view.ty)
    (x6 x7 : Vec Ideal S8x4x160 .f32) (x8 : Vec Ideal S8x160 .f32)
    (h13 : arg13.view.read (Elt Ideal) X13 = lanes4 x6) (h14 : arg14.view.read (Elt Ideal) X14 = lanes4 x7) (h15 : arg15.view.read (Elt Ideal) X15 = lanes3 x8) (f : BufTy.Contents (Elt Ideal) arg9.view.ty) :
    arg9.view.read (Elt Ideal) (arg9.view.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 k0_t1_loop.trips).1) = codesOf (kcolN (arg4.view.read (Elt Ideal) X4) v5 v8 x6 x8) :=
  read_of_pieces _ f _ _ (pieces_k_codes 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 x6 x7 x8 h13 h14 h15 _ le_rfl)
    fun y => cover_k_codes 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 _ le_rfl y (y 0).isLt

/-- Every block a trip writes of the keys' scales is a block of the target. -/
theorem trip_pieces_k_scales (𝒱 : Variants) (c : Dev nD) (bd : Option 𝒱.V) (i : grid0.Coords) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (v5 : Vec Ideal S1x256x2560 .fp8e4m3) (v8 : Vec Ideal S1x256 .f32) (X4 : BufTy.Contents (Elt Ideal) arg4.view.ty) (X5 : BufTy.Contents (Elt Ideal) arg5.view.ty)
    (X13 : BufTy.Contents (Elt Ideal) arg13.view.ty) (X14 : BufTy.Contents (Elt Ideal) arg14.view.ty) (X15 : BufTy.Contents (Elt Ideal) arg15.view.ty)
    (x6 x7 : Vec Ideal S8x4x160 .f32) (x8 : Vec Ideal S8x160 .f32)
    (h13 : arg13.view.read (Elt Ideal) X13 = lanes4 x6) (h14 : arg14.view.read (Elt Ideal) X14 = lanes4 x7) (h15 : arg15.view.read (Elt Ideal) X15 = lanes3 x8) (k : Fin k0_t1_loop.trips) :
    View.PiecesOf (scalesOf (kcolN (arg4.view.read (Elt Ideal) X4) v5 v8 x6 x8)) (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 k).2.1 := by
  rw [trip_k_scales]
  refine ⟨scales_piece _ ⟨k.val, k.isLt⟩ 3 128 (by norm_num) _ (normed_block_apply _ v5 v8 x6 x8 ⟨k.val, k.isLt⟩ 3 480 128 slices_S640x256_o480_128_S160x128 slices_S1x256_o0_128_S1x128 rfl (by norm_num) _ (k0_off2_inb k) (k0_off2_eq k) _ (k0_off19_inb k) (k0_off19_eq k) _ (k0_off4_inb k) (k0_off4_eq k) _ h13 _ h15) _ (k0_off23_inb k) (k0_off23_eq k),
    scales_piece _ ⟨k.val, k.isLt⟩ 3 0 (by norm_num) _ (normed_block_apply _ v5 v8 x6 x8 ⟨k.val, k.isLt⟩ 3 480 0 slices_S640x256_o480_0_S160x128 slices_S1x256_o0_0_S1x128 rfl (by norm_num) _ (k0_off2_inb k) (k0_off2_eq k) _ (k0_off19_inb k) (k0_off19_eq k) _ (k0_off4_inb k) (k0_off4_eq k) _ h13 _ h15) _ (k0_off21_inb k) (k0_off21_eq k),
    scales_piece _ ⟨k.val, k.isLt⟩ 2 128 (by norm_num) _ (normed_block_apply _ v5 v8 x6 x8 ⟨k.val, k.isLt⟩ 2 320 128 slices_S640x256_o320_128_S160x128 slices_S1x256_o0_128_S1x128 rfl (by norm_num) _ (k0_off2_inb k) (k0_off2_eq k) _ (k0_off14_inb k) (k0_off14_eq k) _ (k0_off4_inb k) (k0_off4_eq k) _ h13 _ h15) _ (k0_off18_inb k) (k0_off18_eq k),
    scales_piece _ ⟨k.val, k.isLt⟩ 2 0 (by norm_num) _ (normed_block_apply _ v5 v8 x6 x8 ⟨k.val, k.isLt⟩ 2 320 0 slices_S640x256_o320_0_S160x128 slices_S1x256_o0_0_S1x128 rfl (by norm_num) _ (k0_off2_inb k) (k0_off2_eq k) _ (k0_off14_inb k) (k0_off14_eq k) _ (k0_off4_inb k) (k0_off4_eq k) _ h13 _ h15) _ (k0_off16_inb k) (k0_off16_eq k),
    scales_piece _ ⟨k.val, k.isLt⟩ 1 128 (by norm_num) _ (normed_block_apply _ v5 v8 x6 x8 ⟨k.val, k.isLt⟩ 1 160 128 slices_S640x256_o160_128_S160x128 slices_S1x256_o0_128_S1x128 rfl (by norm_num) _ (k0_off2_inb k) (k0_off2_eq k) _ (k0_off9_inb k) (k0_off9_eq k) _ (k0_off4_inb k) (k0_off4_eq k) _ h13 _ h15) _ (k0_off13_inb k) (k0_off13_eq k),
    scales_piece _ ⟨k.val, k.isLt⟩ 1 0 (by norm_num) _ (normed_block_apply _ v5 v8 x6 x8 ⟨k.val, k.isLt⟩ 1 160 0 slices_S640x256_o160_0_S160x128 slices_S1x256_o0_0_S1x128 rfl (by norm_num) _ (k0_off2_inb k) (k0_off2_eq k) _ (k0_off9_inb k) (k0_off9_eq k) _ (k0_off4_inb k) (k0_off4_eq k) _ h13 _ h15) _ (k0_off11_inb k) (k0_off11_eq k),
    scales_piece _ ⟨k.val, k.isLt⟩ 0 128 (by norm_num) _ (normed_block_apply _ v5 v8 x6 x8 ⟨k.val, k.isLt⟩ 0 0 128 slices_S640x256_o0_128_S160x128 slices_S1x256_o0_128_S1x128 rfl (by norm_num) _ (k0_off2_inb k) (k0_off2_eq k) _ (k0_off3_inb k) (k0_off3_eq k) _ (k0_off4_inb k) (k0_off4_eq k) _ h13 _ h15) _ (k0_off8_inb k) (k0_off8_eq k),
    scales_piece _ ⟨k.val, k.isLt⟩ 0 0 (by norm_num) _ (normed_block_apply _ v5 v8 x6 x8 ⟨k.val, k.isLt⟩ 0 0 0 slices_S640x256_o0_0_S160x128 slices_S1x256_o0_0_S1x128 rfl (by norm_num) _ (k0_off2_inb k) (k0_off2_eq k) _ (k0_off3_inb k) (k0_off3_eq k) _ (k0_off4_inb k) (k0_off4_eq k) _ h13 _ h15) _ (k0_off6_inb k) (k0_off6_eq k), trivial⟩

/-- And every block the loop has written before trip `n`. -/
theorem pieces_k_scales (𝒱 : Variants) (c : Dev nD) (bd : Option 𝒱.V) (i : grid0.Coords) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (v5 : Vec Ideal S1x256x2560 .fp8e4m3) (v8 : Vec Ideal S1x256 .f32) (X4 : BufTy.Contents (Elt Ideal) arg4.view.ty) (X5 : BufTy.Contents (Elt Ideal) arg5.view.ty)
    (X13 : BufTy.Contents (Elt Ideal) arg13.view.ty) (X14 : BufTy.Contents (Elt Ideal) arg14.view.ty) (X15 : BufTy.Contents (Elt Ideal) arg15.view.ty)
    (x6 x7 : Vec Ideal S8x4x160 .f32) (x8 : Vec Ideal S8x160 .f32)
    (h13 : arg13.view.read (Elt Ideal) X13 = lanes4 x6) (h14 : arg14.view.read (Elt Ideal) X14 = lanes4 x7) (h15 : arg15.view.read (Elt Ideal) X15 = lanes3 x8) (n : ℕ) (hn : n ≤ k0_t1_loop.trips) :
    View.PiecesOf (scalesOf (kcolN (arg4.view.read (Elt Ideal) X4) v5 v8 x6 x8)) (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 n).2.1 := by
  induction n with
  | zero => exact trivial
  | succ n ih =>
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 ⟨n, hn⟩]
    exact piecesOf_append (trip_pieces_k_scales 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 x6 x7 x8 h13 h14 h15 ⟨n, hn⟩) (ih (Nat.le_of_succ_le hn))

/-- The blocks of the trips before `n` cover the layers before `n`. -/
theorem cover_k_scales (𝒱 : Variants) (c : Dev nD) (bd : Option 𝒱.V) (i : grid0.Coords) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (v5 : Vec Ideal S1x256x2560 .fp8e4m3) (v8 : Vec Ideal S1x256 .f32) (X4 : BufTy.Contents (Elt Ideal) arg4.view.ty) (X5 : BufTy.Contents (Elt Ideal) arg5.view.ty)
    (X13 : BufTy.Contents (Elt Ideal) arg13.view.ty) (X14 : BufTy.Contents (Elt Ideal) arg14.view.ty) (X15 : BufTy.Contents (Elt Ideal) arg15.view.ty) (n : ℕ) (hn : n ≤ k0_t1_loop.trips) (y : S8x1x4x256.Idx) (hy : (y 0).val < n) :
    ∃ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 n).2.1, y ∈ p.1.set := by
  induction n with
  | zero => omega
  | succ n ih =>
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 ⟨n, hn⟩]
    by_cases h : (y 0).val < n
    · obtain ⟨p, hp, hm⟩ := ih (Nat.le_of_succ_le hn) h
      exact ⟨p, List.mem_append_right _ hp, hm⟩
    have h0 : (y 0).val = n := by omega
    have h2 : (y 2).val < 4 := (y 2).isLt
    have h4 : (y 3).val < 256 := (y 3).isLt
    show ∃ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 ⟨n, hn⟩).2.1 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 n).2.1, y ∈ p.1.set
    rw [trip_k_scales]
    by_cases hl : (y 3).val < 128
    · rcases (by omega : (y 2).val = 0 ∨ (y 2).val = 1 ∨ (y 2).val = 2 ∨ (y 2).val = 3) with h | h | h | h
      · refine ⟨_, List.mem_append_left _ (List.getElem_mem (n := 7) (by simp)), ?_⟩
        exact mem_scales _ (k0_off6_inb ⟨n, hn⟩) _ _ _ (k0_off6_eq ⟨n, hn⟩) y h0 h (by omega)
      · refine ⟨_, List.mem_append_left _ (List.getElem_mem (n := 5) (by simp)), ?_⟩
        exact mem_scales _ (k0_off11_inb ⟨n, hn⟩) _ _ _ (k0_off11_eq ⟨n, hn⟩) y h0 h (by omega)
      · refine ⟨_, List.mem_append_left _ (List.getElem_mem (n := 3) (by simp)), ?_⟩
        exact mem_scales _ (k0_off16_inb ⟨n, hn⟩) _ _ _ (k0_off16_eq ⟨n, hn⟩) y h0 h (by omega)
      · refine ⟨_, List.mem_append_left _ (List.getElem_mem (n := 1) (by simp)), ?_⟩
        exact mem_scales _ (k0_off21_inb ⟨n, hn⟩) _ _ _ (k0_off21_eq ⟨n, hn⟩) y h0 h (by omega)
    · rcases (by omega : (y 2).val = 0 ∨ (y 2).val = 1 ∨ (y 2).val = 2 ∨ (y 2).val = 3) with h | h | h | h
      · refine ⟨_, List.mem_append_left _ (List.getElem_mem (n := 6) (by simp)), ?_⟩
        exact mem_scales _ (k0_off8_inb ⟨n, hn⟩) _ _ _ (k0_off8_eq ⟨n, hn⟩) y h0 h (by omega)
      · refine ⟨_, List.mem_append_left _ (List.getElem_mem (n := 4) (by simp)), ?_⟩
        exact mem_scales _ (k0_off13_inb ⟨n, hn⟩) _ _ _ (k0_off13_eq ⟨n, hn⟩) y h0 h (by omega)
      · refine ⟨_, List.mem_append_left _ (List.getElem_mem (n := 2) (by simp)), ?_⟩
        exact mem_scales _ (k0_off18_inb ⟨n, hn⟩) _ _ _ (k0_off18_eq ⟨n, hn⟩) y h0 h (by omega)
      · refine ⟨_, List.mem_append_left _ (List.getElem_mem (n := 0) (by simp)), ?_⟩
        exact mem_scales _ (k0_off23_inb ⟨n, hn⟩) _ _ _ (k0_off23_eq ⟨n, hn⟩) y h0 h (by omega)

/-- What the loop leaves of the keys' scales. -/
theorem left_k_scales (𝒱 : Variants) (c : Dev nD) (bd : Option 𝒱.V) (i : grid0.Coords) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (v5 : Vec Ideal S1x256x2560 .fp8e4m3) (v8 : Vec Ideal S1x256 .f32) (X4 : BufTy.Contents (Elt Ideal) arg4.view.ty) (X5 : BufTy.Contents (Elt Ideal) arg5.view.ty)
    (X13 : BufTy.Contents (Elt Ideal) arg13.view.ty) (X14 : BufTy.Contents (Elt Ideal) arg14.view.ty) (X15 : BufTy.Contents (Elt Ideal) arg15.view.ty)
    (x6 x7 : Vec Ideal S8x4x160 .f32) (x8 : Vec Ideal S8x160 .f32)
    (h13 : arg13.view.read (Elt Ideal) X13 = lanes4 x6) (h14 : arg14.view.read (Elt Ideal) X14 = lanes4 x7) (h15 : arg15.view.read (Elt Ideal) X15 = lanes3 x8) (f : BufTy.Contents (Elt Ideal) arg10.view.ty) :
    arg10.view.read (Elt Ideal) (arg10.view.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 k0_t1_loop.trips).2.1) = scalesOf (kcolN (arg4.view.read (Elt Ideal) X4) v5 v8 x6 x8) :=
  read_of_pieces _ f _ _ (pieces_k_scales 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 x6 x7 x8 h13 h14 h15 _ le_rfl)
    fun y => cover_k_scales 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 _ le_rfl y (y 0).isLt

/-- Every block a trip writes of the values' codes is a block of the target. -/
theorem trip_pieces_v_codes (𝒱 : Variants) (c : Dev nD) (bd : Option 𝒱.V) (i : grid0.Coords) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (v5 : Vec Ideal S1x256x2560 .fp8e4m3) (v8 : Vec Ideal S1x256 .f32) (X4 : BufTy.Contents (Elt Ideal) arg4.view.ty) (X5 : BufTy.Contents (Elt Ideal) arg5.view.ty)
    (X13 : BufTy.Contents (Elt Ideal) arg13.view.ty) (X14 : BufTy.Contents (Elt Ideal) arg14.view.ty) (X15 : BufTy.Contents (Elt Ideal) arg15.view.ty)
    (x6 x7 : Vec Ideal S8x4x160 .f32) (x8 : Vec Ideal S8x160 .f32)
    (h13 : arg13.view.read (Elt Ideal) X13 = lanes4 x6) (h14 : arg14.view.read (Elt Ideal) X14 = lanes4 x7) (h15 : arg15.view.read (Elt Ideal) X15 = lanes3 x8) (k : Fin k0_t1_loop.trips) :
    View.PiecesOf (codesOf (kcol (arg5.view.read (Elt Ideal) X5) v5 v8 x7)) (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 k).2.2.1 := by
  rw [trip_v_codes]
  refine ⟨codes_piece _ ⟨k.val, k.isLt⟩ 3 128 (by norm_num) _ (plain_block_apply _ v5 v8 x7 ⟨k.val, k.isLt⟩ 3 480 128 slices_S640x256_o480_128_S160x128 slices_S1x256_o0_128_S1x128 rfl (by norm_num) _ (k0_off2_inb k) (k0_off2_eq k) _ (k0_off19_inb k) (k0_off19_eq k) _ h14) _ (k0_off22_inb k) (k0_off22_eq k),
    codes_piece _ ⟨k.val, k.isLt⟩ 3 0 (by norm_num) _ (plain_block_apply _ v5 v8 x7 ⟨k.val, k.isLt⟩ 3 480 0 slices_S640x256_o480_0_S160x128 slices_S1x256_o0_0_S1x128 rfl (by norm_num) _ (k0_off2_inb k) (k0_off2_eq k) _ (k0_off19_inb k) (k0_off19_eq k) _ h14) _ (k0_off20_inb k) (k0_off20_eq k),
    codes_piece _ ⟨k.val, k.isLt⟩ 2 128 (by norm_num) _ (plain_block_apply _ v5 v8 x7 ⟨k.val, k.isLt⟩ 2 320 128 slices_S640x256_o320_128_S160x128 slices_S1x256_o0_128_S1x128 rfl (by norm_num) _ (k0_off2_inb k) (k0_off2_eq k) _ (k0_off14_inb k) (k0_off14_eq k) _ h14) _ (k0_off17_inb k) (k0_off17_eq k),
    codes_piece _ ⟨k.val, k.isLt⟩ 2 0 (by norm_num) _ (plain_block_apply _ v5 v8 x7 ⟨k.val, k.isLt⟩ 2 320 0 slices_S640x256_o320_0_S160x128 slices_S1x256_o0_0_S1x128 rfl (by norm_num) _ (k0_off2_inb k) (k0_off2_eq k) _ (k0_off14_inb k) (k0_off14_eq k) _ h14) _ (k0_off15_inb k) (k0_off15_eq k),
    codes_piece _ ⟨k.val, k.isLt⟩ 1 128 (by norm_num) _ (plain_block_apply _ v5 v8 x7 ⟨k.val, k.isLt⟩ 1 160 128 slices_S640x256_o160_128_S160x128 slices_S1x256_o0_128_S1x128 rfl (by norm_num) _ (k0_off2_inb k) (k0_off2_eq k) _ (k0_off9_inb k) (k0_off9_eq k) _ h14) _ (k0_off12_inb k) (k0_off12_eq k),
    codes_piece _ ⟨k.val, k.isLt⟩ 1 0 (by norm_num) _ (plain_block_apply _ v5 v8 x7 ⟨k.val, k.isLt⟩ 1 160 0 slices_S640x256_o160_0_S160x128 slices_S1x256_o0_0_S1x128 rfl (by norm_num) _ (k0_off2_inb k) (k0_off2_eq k) _ (k0_off9_inb k) (k0_off9_eq k) _ h14) _ (k0_off10_inb k) (k0_off10_eq k),
    codes_piece _ ⟨k.val, k.isLt⟩ 0 128 (by norm_num) _ (plain_block_apply _ v5 v8 x7 ⟨k.val, k.isLt⟩ 0 0 128 slices_S640x256_o0_128_S160x128 slices_S1x256_o0_128_S1x128 rfl (by norm_num) _ (k0_off2_inb k) (k0_off2_eq k) _ (k0_off3_inb k) (k0_off3_eq k) _ h14) _ (k0_off7_inb k) (k0_off7_eq k),
    codes_piece _ ⟨k.val, k.isLt⟩ 0 0 (by norm_num) _ (plain_block_apply _ v5 v8 x7 ⟨k.val, k.isLt⟩ 0 0 0 slices_S640x256_o0_0_S160x128 slices_S1x256_o0_0_S1x128 rfl (by norm_num) _ (k0_off2_inb k) (k0_off2_eq k) _ (k0_off3_inb k) (k0_off3_eq k) _ h14) _ (k0_off5_inb k) (k0_off5_eq k), trivial⟩

/-- And every block the loop has written before trip `n`. -/
theorem pieces_v_codes (𝒱 : Variants) (c : Dev nD) (bd : Option 𝒱.V) (i : grid0.Coords) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (v5 : Vec Ideal S1x256x2560 .fp8e4m3) (v8 : Vec Ideal S1x256 .f32) (X4 : BufTy.Contents (Elt Ideal) arg4.view.ty) (X5 : BufTy.Contents (Elt Ideal) arg5.view.ty)
    (X13 : BufTy.Contents (Elt Ideal) arg13.view.ty) (X14 : BufTy.Contents (Elt Ideal) arg14.view.ty) (X15 : BufTy.Contents (Elt Ideal) arg15.view.ty)
    (x6 x7 : Vec Ideal S8x4x160 .f32) (x8 : Vec Ideal S8x160 .f32)
    (h13 : arg13.view.read (Elt Ideal) X13 = lanes4 x6) (h14 : arg14.view.read (Elt Ideal) X14 = lanes4 x7) (h15 : arg15.view.read (Elt Ideal) X15 = lanes3 x8) (n : ℕ) (hn : n ≤ k0_t1_loop.trips) :
    View.PiecesOf (codesOf (kcol (arg5.view.read (Elt Ideal) X5) v5 v8 x7)) (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 n).2.2.1 := by
  induction n with
  | zero => exact trivial
  | succ n ih =>
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 ⟨n, hn⟩]
    exact piecesOf_append (trip_pieces_v_codes 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 x6 x7 x8 h13 h14 h15 ⟨n, hn⟩) (ih (Nat.le_of_succ_le hn))

/-- The blocks of the trips before `n` cover the layers before `n`. -/
theorem cover_v_codes (𝒱 : Variants) (c : Dev nD) (bd : Option 𝒱.V) (i : grid0.Coords) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (v5 : Vec Ideal S1x256x2560 .fp8e4m3) (v8 : Vec Ideal S1x256 .f32) (X4 : BufTy.Contents (Elt Ideal) arg4.view.ty) (X5 : BufTy.Contents (Elt Ideal) arg5.view.ty)
    (X13 : BufTy.Contents (Elt Ideal) arg13.view.ty) (X14 : BufTy.Contents (Elt Ideal) arg14.view.ty) (X15 : BufTy.Contents (Elt Ideal) arg15.view.ty) (n : ℕ) (hn : n ≤ k0_t1_loop.trips) (y : S8x1x4x160x256.Idx) (hy : (y 0).val < n) :
    ∃ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 n).2.2.1, y ∈ p.1.set := by
  induction n with
  | zero => omega
  | succ n ih =>
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 ⟨n, hn⟩]
    by_cases h : (y 0).val < n
    · obtain ⟨p, hp, hm⟩ := ih (Nat.le_of_succ_le hn) h
      exact ⟨p, List.mem_append_right _ hp, hm⟩
    have h0 : (y 0).val = n := by omega
    have h2 : (y 2).val < 4 := (y 2).isLt
    have h4 : (y 4).val < 256 := (y 4).isLt
    show ∃ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 ⟨n, hn⟩).2.2.1 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 n).2.2.1, y ∈ p.1.set
    rw [trip_v_codes]
    by_cases hl : (y 4).val < 128
    · rcases (by omega : (y 2).val = 0 ∨ (y 2).val = 1 ∨ (y 2).val = 2 ∨ (y 2).val = 3) with h | h | h | h
      · refine ⟨_, List.mem_append_left _ (List.getElem_mem (n := 7) (by simp)), ?_⟩
        exact mem_codes _ (k0_off5_inb ⟨n, hn⟩) _ _ _ (k0_off5_eq ⟨n, hn⟩) y h0 h (by omega)
      · refine ⟨_, List.mem_append_left _ (List.getElem_mem (n := 5) (by simp)), ?_⟩
        exact mem_codes _ (k0_off10_inb ⟨n, hn⟩) _ _ _ (k0_off10_eq ⟨n, hn⟩) y h0 h (by omega)
      · refine ⟨_, List.mem_append_left _ (List.getElem_mem (n := 3) (by simp)), ?_⟩
        exact mem_codes _ (k0_off15_inb ⟨n, hn⟩) _ _ _ (k0_off15_eq ⟨n, hn⟩) y h0 h (by omega)
      · refine ⟨_, List.mem_append_left _ (List.getElem_mem (n := 1) (by simp)), ?_⟩
        exact mem_codes _ (k0_off20_inb ⟨n, hn⟩) _ _ _ (k0_off20_eq ⟨n, hn⟩) y h0 h (by omega)
    · rcases (by omega : (y 2).val = 0 ∨ (y 2).val = 1 ∨ (y 2).val = 2 ∨ (y 2).val = 3) with h | h | h | h
      · refine ⟨_, List.mem_append_left _ (List.getElem_mem (n := 6) (by simp)), ?_⟩
        exact mem_codes _ (k0_off7_inb ⟨n, hn⟩) _ _ _ (k0_off7_eq ⟨n, hn⟩) y h0 h (by omega)
      · refine ⟨_, List.mem_append_left _ (List.getElem_mem (n := 4) (by simp)), ?_⟩
        exact mem_codes _ (k0_off12_inb ⟨n, hn⟩) _ _ _ (k0_off12_eq ⟨n, hn⟩) y h0 h (by omega)
      · refine ⟨_, List.mem_append_left _ (List.getElem_mem (n := 2) (by simp)), ?_⟩
        exact mem_codes _ (k0_off17_inb ⟨n, hn⟩) _ _ _ (k0_off17_eq ⟨n, hn⟩) y h0 h (by omega)
      · refine ⟨_, List.mem_append_left _ (List.getElem_mem (n := 0) (by simp)), ?_⟩
        exact mem_codes _ (k0_off22_inb ⟨n, hn⟩) _ _ _ (k0_off22_eq ⟨n, hn⟩) y h0 h (by omega)

/-- What the loop leaves of the values' codes. -/
theorem left_v_codes (𝒱 : Variants) (c : Dev nD) (bd : Option 𝒱.V) (i : grid0.Coords) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (v5 : Vec Ideal S1x256x2560 .fp8e4m3) (v8 : Vec Ideal S1x256 .f32) (X4 : BufTy.Contents (Elt Ideal) arg4.view.ty) (X5 : BufTy.Contents (Elt Ideal) arg5.view.ty)
    (X13 : BufTy.Contents (Elt Ideal) arg13.view.ty) (X14 : BufTy.Contents (Elt Ideal) arg14.view.ty) (X15 : BufTy.Contents (Elt Ideal) arg15.view.ty)
    (x6 x7 : Vec Ideal S8x4x160 .f32) (x8 : Vec Ideal S8x160 .f32)
    (h13 : arg13.view.read (Elt Ideal) X13 = lanes4 x6) (h14 : arg14.view.read (Elt Ideal) X14 = lanes4 x7) (h15 : arg15.view.read (Elt Ideal) X15 = lanes3 x8) (f : BufTy.Contents (Elt Ideal) arg11.view.ty) :
    arg11.view.read (Elt Ideal) (arg11.view.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 k0_t1_loop.trips).2.2.1) = codesOf (kcol (arg5.view.read (Elt Ideal) X5) v5 v8 x7) :=
  read_of_pieces _ f _ _ (pieces_v_codes 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 x6 x7 x8 h13 h14 h15 _ le_rfl)
    fun y => cover_v_codes 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 _ le_rfl y (y 0).isLt

/-- Every block a trip writes of the values' scales is a block of the target. -/
theorem trip_pieces_v_scales (𝒱 : Variants) (c : Dev nD) (bd : Option 𝒱.V) (i : grid0.Coords) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (v5 : Vec Ideal S1x256x2560 .fp8e4m3) (v8 : Vec Ideal S1x256 .f32) (X4 : BufTy.Contents (Elt Ideal) arg4.view.ty) (X5 : BufTy.Contents (Elt Ideal) arg5.view.ty)
    (X13 : BufTy.Contents (Elt Ideal) arg13.view.ty) (X14 : BufTy.Contents (Elt Ideal) arg14.view.ty) (X15 : BufTy.Contents (Elt Ideal) arg15.view.ty)
    (x6 x7 : Vec Ideal S8x4x160 .f32) (x8 : Vec Ideal S8x160 .f32)
    (h13 : arg13.view.read (Elt Ideal) X13 = lanes4 x6) (h14 : arg14.view.read (Elt Ideal) X14 = lanes4 x7) (h15 : arg15.view.read (Elt Ideal) X15 = lanes3 x8) (k : Fin k0_t1_loop.trips) :
    View.PiecesOf (scalesOf (kcol (arg5.view.read (Elt Ideal) X5) v5 v8 x7)) (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 k).2.2.2 := by
  rw [trip_v_scales]
  refine ⟨scales_piece _ ⟨k.val, k.isLt⟩ 3 128 (by norm_num) _ (plain_block_apply _ v5 v8 x7 ⟨k.val, k.isLt⟩ 3 480 128 slices_S640x256_o480_128_S160x128 slices_S1x256_o0_128_S1x128 rfl (by norm_num) _ (k0_off2_inb k) (k0_off2_eq k) _ (k0_off19_inb k) (k0_off19_eq k) _ h14) _ (k0_off23_inb k) (k0_off23_eq k),
    scales_piece _ ⟨k.val, k.isLt⟩ 3 0 (by norm_num) _ (plain_block_apply _ v5 v8 x7 ⟨k.val, k.isLt⟩ 3 480 0 slices_S640x256_o480_0_S160x128 slices_S1x256_o0_0_S1x128 rfl (by norm_num) _ (k0_off2_inb k) (k0_off2_eq k) _ (k0_off19_inb k) (k0_off19_eq k) _ h14) _ (k0_off21_inb k) (k0_off21_eq k),
    scales_piece _ ⟨k.val, k.isLt⟩ 2 128 (by norm_num) _ (plain_block_apply _ v5 v8 x7 ⟨k.val, k.isLt⟩ 2 320 128 slices_S640x256_o320_128_S160x128 slices_S1x256_o0_128_S1x128 rfl (by norm_num) _ (k0_off2_inb k) (k0_off2_eq k) _ (k0_off14_inb k) (k0_off14_eq k) _ h14) _ (k0_off18_inb k) (k0_off18_eq k),
    scales_piece _ ⟨k.val, k.isLt⟩ 2 0 (by norm_num) _ (plain_block_apply _ v5 v8 x7 ⟨k.val, k.isLt⟩ 2 320 0 slices_S640x256_o320_0_S160x128 slices_S1x256_o0_0_S1x128 rfl (by norm_num) _ (k0_off2_inb k) (k0_off2_eq k) _ (k0_off14_inb k) (k0_off14_eq k) _ h14) _ (k0_off16_inb k) (k0_off16_eq k),
    scales_piece _ ⟨k.val, k.isLt⟩ 1 128 (by norm_num) _ (plain_block_apply _ v5 v8 x7 ⟨k.val, k.isLt⟩ 1 160 128 slices_S640x256_o160_128_S160x128 slices_S1x256_o0_128_S1x128 rfl (by norm_num) _ (k0_off2_inb k) (k0_off2_eq k) _ (k0_off9_inb k) (k0_off9_eq k) _ h14) _ (k0_off13_inb k) (k0_off13_eq k),
    scales_piece _ ⟨k.val, k.isLt⟩ 1 0 (by norm_num) _ (plain_block_apply _ v5 v8 x7 ⟨k.val, k.isLt⟩ 1 160 0 slices_S640x256_o160_0_S160x128 slices_S1x256_o0_0_S1x128 rfl (by norm_num) _ (k0_off2_inb k) (k0_off2_eq k) _ (k0_off9_inb k) (k0_off9_eq k) _ h14) _ (k0_off11_inb k) (k0_off11_eq k),
    scales_piece _ ⟨k.val, k.isLt⟩ 0 128 (by norm_num) _ (plain_block_apply _ v5 v8 x7 ⟨k.val, k.isLt⟩ 0 0 128 slices_S640x256_o0_128_S160x128 slices_S1x256_o0_128_S1x128 rfl (by norm_num) _ (k0_off2_inb k) (k0_off2_eq k) _ (k0_off3_inb k) (k0_off3_eq k) _ h14) _ (k0_off8_inb k) (k0_off8_eq k),
    scales_piece _ ⟨k.val, k.isLt⟩ 0 0 (by norm_num) _ (plain_block_apply _ v5 v8 x7 ⟨k.val, k.isLt⟩ 0 0 0 slices_S640x256_o0_0_S160x128 slices_S1x256_o0_0_S1x128 rfl (by norm_num) _ (k0_off2_inb k) (k0_off2_eq k) _ (k0_off3_inb k) (k0_off3_eq k) _ h14) _ (k0_off6_inb k) (k0_off6_eq k), trivial⟩

/-- And every block the loop has written before trip `n`. -/
theorem pieces_v_scales (𝒱 : Variants) (c : Dev nD) (bd : Option 𝒱.V) (i : grid0.Coords) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (v5 : Vec Ideal S1x256x2560 .fp8e4m3) (v8 : Vec Ideal S1x256 .f32) (X4 : BufTy.Contents (Elt Ideal) arg4.view.ty) (X5 : BufTy.Contents (Elt Ideal) arg5.view.ty)
    (X13 : BufTy.Contents (Elt Ideal) arg13.view.ty) (X14 : BufTy.Contents (Elt Ideal) arg14.view.ty) (X15 : BufTy.Contents (Elt Ideal) arg15.view.ty)
    (x6 x7 : Vec Ideal S8x4x160 .f32) (x8 : Vec Ideal S8x160 .f32)
    (h13 : arg13.view.read (Elt Ideal) X13 = lanes4 x6) (h14 : arg14.view.read (Elt Ideal) X14 = lanes4 x7) (h15 : arg15.view.read (Elt Ideal) X15 = lanes3 x8) (n : ℕ) (hn : n ≤ k0_t1_loop.trips) :
    View.PiecesOf (scalesOf (kcol (arg5.view.read (Elt Ideal) X5) v5 v8 x7)) (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 n).2.2.2 := by
  induction n with
  | zero => exact trivial
  | succ n ih =>
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 ⟨n, hn⟩]
    exact piecesOf_append (trip_pieces_v_scales 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 x6 x7 x8 h13 h14 h15 ⟨n, hn⟩) (ih (Nat.le_of_succ_le hn))

/-- The blocks of the trips before `n` cover the layers before `n`. -/
theorem cover_v_scales (𝒱 : Variants) (c : Dev nD) (bd : Option 𝒱.V) (i : grid0.Coords) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (v5 : Vec Ideal S1x256x2560 .fp8e4m3) (v8 : Vec Ideal S1x256 .f32) (X4 : BufTy.Contents (Elt Ideal) arg4.view.ty) (X5 : BufTy.Contents (Elt Ideal) arg5.view.ty)
    (X13 : BufTy.Contents (Elt Ideal) arg13.view.ty) (X14 : BufTy.Contents (Elt Ideal) arg14.view.ty) (X15 : BufTy.Contents (Elt Ideal) arg15.view.ty) (n : ℕ) (hn : n ≤ k0_t1_loop.trips) (y : S8x1x4x256.Idx) (hy : (y 0).val < n) :
    ∃ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 n).2.2.2, y ∈ p.1.set := by
  induction n with
  | zero => omega
  | succ n ih =>
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 ⟨n, hn⟩]
    by_cases h : (y 0).val < n
    · obtain ⟨p, hp, hm⟩ := ih (Nat.le_of_succ_le hn) h
      exact ⟨p, List.mem_append_right _ hp, hm⟩
    have h0 : (y 0).val = n := by omega
    have h2 : (y 2).val < 4 := (y 2).isLt
    have h4 : (y 3).val < 256 := (y 3).isLt
    show ∃ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 ⟨n, hn⟩).2.2.2 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 n).2.2.2, y ∈ p.1.set
    rw [trip_v_scales]
    by_cases hl : (y 3).val < 128
    · rcases (by omega : (y 2).val = 0 ∨ (y 2).val = 1 ∨ (y 2).val = 2 ∨ (y 2).val = 3) with h | h | h | h
      · refine ⟨_, List.mem_append_left _ (List.getElem_mem (n := 7) (by simp)), ?_⟩
        exact mem_scales _ (k0_off6_inb ⟨n, hn⟩) _ _ _ (k0_off6_eq ⟨n, hn⟩) y h0 h (by omega)
      · refine ⟨_, List.mem_append_left _ (List.getElem_mem (n := 5) (by simp)), ?_⟩
        exact mem_scales _ (k0_off11_inb ⟨n, hn⟩) _ _ _ (k0_off11_eq ⟨n, hn⟩) y h0 h (by omega)
      · refine ⟨_, List.mem_append_left _ (List.getElem_mem (n := 3) (by simp)), ?_⟩
        exact mem_scales _ (k0_off16_inb ⟨n, hn⟩) _ _ _ (k0_off16_eq ⟨n, hn⟩) y h0 h (by omega)
      · refine ⟨_, List.mem_append_left _ (List.getElem_mem (n := 1) (by simp)), ?_⟩
        exact mem_scales _ (k0_off21_inb ⟨n, hn⟩) _ _ _ (k0_off21_eq ⟨n, hn⟩) y h0 h (by omega)
    · rcases (by omega : (y 2).val = 0 ∨ (y 2).val = 1 ∨ (y 2).val = 2 ∨ (y 2).val = 3) with h | h | h | h
      · refine ⟨_, List.mem_append_left _ (List.getElem_mem (n := 6) (by simp)), ?_⟩
        exact mem_scales _ (k0_off8_inb ⟨n, hn⟩) _ _ _ (k0_off8_eq ⟨n, hn⟩) y h0 h (by omega)
      · refine ⟨_, List.mem_append_left _ (List.getElem_mem (n := 4) (by simp)), ?_⟩
        exact mem_scales _ (k0_off13_inb ⟨n, hn⟩) _ _ _ (k0_off13_eq ⟨n, hn⟩) y h0 h (by omega)
      · refine ⟨_, List.mem_append_left _ (List.getElem_mem (n := 2) (by simp)), ?_⟩
        exact mem_scales _ (k0_off18_inb ⟨n, hn⟩) _ _ _ (k0_off18_eq ⟨n, hn⟩) y h0 h (by omega)
      · refine ⟨_, List.mem_append_left _ (List.getElem_mem (n := 0) (by simp)), ?_⟩
        exact mem_scales _ (k0_off23_inb ⟨n, hn⟩) _ _ _ (k0_off23_eq ⟨n, hn⟩) y h0 h (by omega)

/-- What the loop leaves of the values' scales. -/
theorem left_v_scales (𝒱 : Variants) (c : Dev nD) (bd : Option 𝒱.V) (i : grid0.Coords) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (v5 : Vec Ideal S1x256x2560 .fp8e4m3) (v8 : Vec Ideal S1x256 .f32) (X4 : BufTy.Contents (Elt Ideal) arg4.view.ty) (X5 : BufTy.Contents (Elt Ideal) arg5.view.ty)
    (X13 : BufTy.Contents (Elt Ideal) arg13.view.ty) (X14 : BufTy.Contents (Elt Ideal) arg14.view.ty) (X15 : BufTy.Contents (Elt Ideal) arg15.view.ty)
    (x6 x7 : Vec Ideal S8x4x160 .f32) (x8 : Vec Ideal S8x160 .f32)
    (h13 : arg13.view.read (Elt Ideal) X13 = lanes4 x6) (h14 : arg14.view.read (Elt Ideal) X14 = lanes4 x7) (h15 : arg15.view.read (Elt Ideal) X15 = lanes3 x8) (f : BufTy.Contents (Elt Ideal) arg12.view.ty) :
    arg12.view.read (Elt Ideal) (arg12.view.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 k0_t1_loop.trips).2.2.2) = scalesOf (kcol (arg5.view.read (Elt Ideal) X5) v5 v8 x7) :=
  read_of_pieces _ f _ _ (pieces_v_scales 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 x6 x7 x8 h13 h14 h15 _ le_rfl)
    fun y => cover_v_scales 𝒱 c bd i arg2 harg2 arg3 harg3 arg4 harg4 arg5 harg5 arg6 harg6 arg7 harg7 arg8 harg8 arg9 harg9 arg10 harg10 arg11 harg11 arg12 harg12 arg13 harg13 arg14 harg14 arg15 harg15 v5 v8 X4 X5 X13 X14 X15 _ le_rfl y (y 0).isLt

end Cert.KernelIdeal.Exact

end
-- ==== Proof.KIExactBody.lean ====
module

public import proofs.«01_k».proof.Proof.KILoop
public import proofs.«01_k».proof.Proof.KIFrameBody

@[expose] public section

set_option maxRecDepth 16384

noncomputable section

namespace Cert.KernelIdeal.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The codes of the tokens a grid point loads. -/
def xblk (x2 : Vec Ideal S1x256x2560 .fp8e4m3) : Vec Ideal S1x256x2560 .fp8e4m3 :=
  View.ld x2 (Rect.unit (s := S1x256x2560) ![0, 0, 0] S1x256x2560.size inb_S1x256x2560_S1x256x2560_0_0_0)

/-- The scales of the tokens a grid point loads: its batch's row. -/
def xrow (i : grid0.Coords) (x3 : Vec Ideal S12x256 .f32) : Vec Ideal S1x256 .f32 :=
  View.ld x3 (Rect.unit (s := S12x256) (k0_off1 i) S1x256.size (k0_off1_inb i))

theorem xblk_eq (x2 : Vec Ideal S1x256x2560 .fp8e4m3) : xblk x2 = x2 := by
  unfold xblk
  exact View.ld_unit_zero (by funext a; fin_cases a <;> rfl) _ x2

theorem xrow_apply (i : grid0.Coords) (x3 : Vec Ideal S12x256 .f32) (j : Fin 256) : xrow i x3 (ix2 0 j) = x3 (ix2 (i 0) j) := by
  unfold xrow
  have h := k0_off1_eq i
  generalize_proofs hp
  revert hp
  rw [h]
  intro hp
  pointwise

/-- A row of 160 values, repeated over 128 lanes. -/
theorem lane_piece4 (s : Vec Ideal S8x4x160 .f32) (l h : ℕ) (inb) (inb') (p : FVec Ideal S1x1x160x128 .f32)
    (hp : p = k0_pay6 (View.ld s (Rect.unit (s := S8x4x160) ![l, h, 0] S1x1x160.size inb))) (y : S1x1x160x128.Idx) :
    p y
      = lanes4 s ((Rect.unit (s := S8x4x160x128) ![l, h, 0, 0] S1x1x160x128.size inb').emb y) := by
  subst hp
  have hl := inb 0
  have hh := inb 1
  simp at hl hh
  have e : (Rect.unit (s := S8x4x160x128) ![l, h, 0, 0] S1x1x160x128.size inb').emb y = ix4 ⟨l, by omega⟩ ⟨h, by omega⟩ (y 2) (y 3) := by
    funext a; apply Fin.ext; rw [ValueKit.rect_emb_unit_val]
    have h0 : (y 0).val < 1 := (y 0).isLt
    have h1 : (y 1).val < 1 := (y 1).isLt
    fin_cases a <;> simp <;> omega
  rw [e]
  unfold k0_pay6 lanes4
  pointwise

theorem lane_piece3 (g : Vec Ideal S8x160 .f32) (l : ℕ) (inb) (inb') (p : FVec Ideal S1x160x128 .f32)
    (hp : p = k0_pay5 (View.ld g (Rect.unit (s := S8x160) ![l, 0] S1x160.size inb))) (y : S1x160x128.Idx) :
    p y
      = lanes3 g ((Rect.unit (s := S8x160x128) ![l, 0, 0] S1x160x128.size inb').emb y) := by
  subst hp
  have hl := inb 0
  simp at hl
  have e : (Rect.unit (s := S8x160x128) ![l, 0, 0] S1x160x128.size inb').emb y = ix3 ⟨l, by omega⟩ (y 1) (y 2) := by
    funext a; apply Fin.ext; rw [ValueKit.rect_emb_unit_val]
    have h0 : (y 0).val < 1 := (y 0).isLt
    fin_cases a <;> simp <;> omega
  rw [e]
  unfold k0_pay5 lanes3
  pointwise

set_option maxHeartbeats 4000000 in
/-- The body at the first grid point: the results hold their targets, the scratch the scales' tables. -/
theorem exact_first (c : Dev nD) (E : Set ℕ) (i : grid0.Coords) (hc : Own.InitCond i) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (x2 : Vec Ideal S1x256x2560 .fp8e4m3) (x3 : Vec Ideal S12x256 .f32) (x4 : Vec Ideal S5120x2560 .fp8e4m3) (x5 : Vec Ideal S5120x2560 .fp8e4m3) (x6 : Vec Ideal S8x4x160 .f32) (x7 : Vec Ideal S8x4x160 .f32) (x8 : Vec Ideal S8x160 .f32) (K : PUnit → sProp 𝕄) :
    iprop((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d))
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (codesOf (kcolN x4 (xblk x2) (xrow i x3) x6 x8)) ∗ owns (c : Thread nD τ) arg10 fullShare (scalesOf (kcolN x4 (xblk x2) (xrow i x3) x6 x8)) ∗ owns (c : Thread nD τ) arg11 fullShare (codesOf (kcol x5 (xblk x2) (xrow i x3) x7)) ∗ owns (c : Thread nD τ) arg12 fullShare (scalesOf (kcol x5 (xblk x2) (xrow i x3) x7)) ∗ owns (c : Thread nD τ) arg13 fullShare (lanes4 x6) ∗ owns (c : Thread nD τ) arg14 fullShare (lanes4 x7) ∗ owns (c : Thread nD τ) arg15 fullShare (lanes3 x8)) -∗ K ⟨⟩))
      ⊢ wp frame (wpE (defs₀ (F := Ideal)) Variants.none c none) E (cc0_kv_fill i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_kv_fill_eq_skeleton]; unfold cc0_kv_fill_skel
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩⟩, Hk⟩
  subst hf2 hf3 hf4 hf5 hf6 hf7 hf8
  sl_exec (disch := sl_exact hc)
  sl_step
  have h13 : arg13.view.read (Elt Ideal) (arg13.view.writes (Elt Ideal) arg13.view.junk (exact_first.sl.H13_32 c arg6 f6)) = lanes4 (arg6.view.read (Elt Ideal) f6) := by
    refine read_of_pieces _ _ _ _ ?_ ?_
    · repeat first | exact trivial | refine And.intro (fun y => by refine lane_piece4 (arg6.view.read (Elt Ideal) f6) _ _ ?_ ?_ _ ?_ y <;> first | decide | rfl) ?_
    · exact View.cover_of_tiled _ S1x1x160x128.size rfl
  have h14 : arg14.view.read (Elt Ideal) (arg14.view.writes (Elt Ideal) arg14.view.junk (exact_first.sl.H14_32 c arg7 f7)) = lanes4 (arg7.view.read (Elt Ideal) f7) := by
    refine read_of_pieces _ _ _ _ ?_ ?_
    · repeat first | exact trivial | refine And.intro (fun y => by refine lane_piece4 (arg7.view.read (Elt Ideal) f7) _ _ ?_ ?_ _ ?_ y <;> first | decide | rfl) ?_
    · exact View.cover_of_tiled _ S1x1x160x128.size rfl
  have h15 : arg15.view.read (Elt Ideal) (arg15.view.writes (Elt Ideal) arg15.view.junk (exact_first.sl.H15_8 c arg8 f8)) = lanes3 (arg8.view.read (Elt Ideal) f8) := by
    refine read_of_pieces _ _ _ _ ?_ ?_
    · repeat first | exact trivial | refine And.intro (fun y => by refine lane_piece3 (arg8.view.read (Elt Ideal) f8) _ ?_ ?_ _ ?_ y <;> first | decide | rfl) ?_
    · exact View.cover_of_tiled _ S1x160x128.size rfl
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact left_k_codes _ _ _ _ _ _ _ _ _ _ _ _ _ _ _ _ _ _ _ _ _ _ _ _ _ _ _ _ _ _ _ _ _ _ _ _ _ _ _ _ _ _ h13 h14 h15 _
  isplitl [H10]
  · iexists _; isplitr
    swap; · iexact H10
    ipureintro
    exact left_k_scales _ _ _ _ _ _ _ _ _ _ _ _ _ _ _ _ _ _ _ _ _ _ _ _ _ _ _ _ _ _ _ _ _ _ _ _ _ _ _ _ _ _ h13 h14 h15 _
  isplitl [H11]
  · iexists _; isplitr
    swap; · iexact H11
    ipureintro
    exact left_v_codes _ _ _ _ _ _ _ _ _ _ _ _ _ _ _ _ _ _ _ _ _ _ _ _ _ _ _ _ _ _ _ _ _ _ _ _ _ _ _ _ _ _ h13 h14 h15 _
  isplitl [H12]
  · iexists _; isplitr
    swap; · iexact H12
    ipureintro
    exact left_v_scales _ _ _ _ _ _ _ _ _ _ _ _ _ _ _ _ _ _ _ _ _ _ _ _ _ _ _ _ _ _ _ _ _ _ _ _ _ _ _ _ _ _ h13 h14 h15 _
  isplitl [H13]
  · iexists _; isplitr
    swap; · iexact H13
    ipureintro; exact h13
  isplitl [H14]
  · iexists _; isplitr
    swap; · iexact H14
    ipureintro; exact h14
  iexists _; isplitr
  swap; · iexact H15
  ipureintro; exact h15

set_option maxHeartbeats 4000000 in
/-- The body at any other grid point: the results hold their targets, the scratch the scales' tables. -/
theorem exact_rest (c : Dev nD) (E : Set ℕ) (i : grid0.Coords) (hc : ¬ Own.InitCond i) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (x2 : Vec Ideal S1x256x2560 .fp8e4m3) (x3 : Vec Ideal S12x256 .f32) (x4 : Vec Ideal S5120x2560 .fp8e4m3) (x5 : Vec Ideal S5120x2560 .fp8e4m3) (x6 : Vec Ideal S8x4x160 .f32) (x7 : Vec Ideal S8x4x160 .f32) (x8 : Vec Ideal S8x160 .f32) (K : PUnit → sProp 𝕄) :
    iprop((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare (lanes4 x6) ∗ owns (c : Thread nD τ) arg14 fullShare (lanes4 x7) ∗ owns (c : Thread nD τ) arg15 fullShare (lanes3 x8))
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (codesOf (kcolN x4 (xblk x2) (xrow i x3) x6 x8)) ∗ owns (c : Thread nD τ) arg10 fullShare (scalesOf (kcolN x4 (xblk x2) (xrow i x3) x6 x8)) ∗ owns (c : Thread nD τ) arg11 fullShare (codesOf (kcol x5 (xblk x2) (xrow i x3) x7)) ∗ owns (c : Thread nD τ) arg12 fullShare (scalesOf (kcol x5 (xblk x2) (xrow i x3) x7)) ∗ owns (c : Thread nD τ) arg13 fullShare (lanes4 x6) ∗ owns (c : Thread nD τ) arg14 fullShare (lanes4 x7) ∗ owns (c : Thread nD τ) arg15 fullShare (lanes3 x8)) -∗ K ⟨⟩))
      ⊢ wp frame (wpE (defs₀ (F := Ideal)) Variants.none c none) E (cc0_kv_fill i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_kv_fill_eq_skeleton]; unfold cc0_kv_fill_skel
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%f13, %hf13, H13⟩, ⟨%f14, %hf14, H14⟩, ⟨%f15, %hf15, H15⟩⟩, Hk⟩
  subst hf2 hf3 hf4 hf5 hf6 hf7 hf8
  sl_exec (disch := sl_exact hc)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact left_k_codes _ _ _ _ _ _ _ _ _ _ _ _ _ _ _ _ _ _ _ _ _ _ _ _ _ _ _ _ _ _ _ _ _ _ _ _ _ _ _ _ _ _ hf13 hf14 hf15 _
  isplitl [H10]
  · iexists _; isplitr
    swap; · iexact H10
    ipureintro
    exact left_k_scales _ _ _ _ _ _ _ _ _ _ _ _ _ _ _ _ _ _ _ _ _ _ _ _ _ _ _ _ _ _ _ _ _ _ _ _ _ _ _ _ _ _ hf13 hf14 hf15 _
  isplitl [H11]
  · iexists _; isplitr
    swap; · iexact H11
    ipureintro
    exact left_v_codes _ _ _ _ _ _ _ _ _ _ _ _ _ _ _ _ _ _ _ _ _ _ _ _ _ _ _ _ _ _ _ _ _ _ _ _ _ _ _ _ _ _ hf13 hf14 hf15 _
  isplitl [H12]
  · iexists _; isplitr
    swap; · iexact H12
    ipureintro
    exact left_v_scales _ _ _ _ _ _ _ _ _ _ _ _ _ _ _ _ _ _ _ _ _ _ _ _ _ _ _ _ _ _ _ _ _ _ _ _ _ _ _ _ _ _ hf13 hf14 hf15 _
  isplitl [H13]
  · iexists f13; isplitr; · ipureintro; exact hf13
    iexact H13
  isplitl [H14]
  · iexists f14; isplitr; · ipureintro; exact hf14
    iexact H14
  iexists f15; isplitr; · ipureintro; exact hf15
  iexact H15

end Cert.KernelIdeal.Exact

end
-- ==== Proof.KIGeom.lean ====
module

public import proofs.«01_k».proof.Proof.KIExactBody
public import proofs.«01_k».proof.Proof.KIFrameRun
public import Idealize.ShloMosaic.Lib.Pipeline.ValueKit.Geometry

@[expose] public section

set_option maxRecDepth 16384

noncomputable section

namespace Cert.KernelIdeal.Exact

open Cert.KernelIdeal Cert.KernelIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

/-- The scratch is filled at the first grid point and at no other. -/
theorem init_iff : ∀ t : Fin cfg0.N, Own.InitCond (grid0.coords t) ↔ t.val = 0 := by decide +kernel

/-! ## The blocks of the clipped windows -/

theorem index_0 : ∀ t : Fin cfg0.N, win0_0.index t = ![(grid0.coords t 0).val, (grid0.coords t 1).val, 0] := by decide +kernel
theorem index_1 : ∀ t : Fin cfg0.N, win0_1.index t = ![0, (grid0.coords t 1).val] := by decide +kernel
theorem index_7 : ∀ t : Fin cfg0.N, win0_7.index t = ![0, (grid0.coords t 0).val, 0, 0, (grid0.coords t 1).val] := by decide +kernel
theorem index_8 : ∀ t : Fin cfg0.N, win0_8.index t = ![0, (grid0.coords t 0).val, 0, (grid0.coords t 1).val] := by decide +kernel
theorem index_9 : ∀ t : Fin cfg0.N, win0_9.index t = ![0, (grid0.coords t 0).val, 0, 0, (grid0.coords t 1).val] := by decide +kernel
theorem index_10 : ∀ t : Fin cfg0.N, win0_10.index t = ![0, (grid0.coords t 0).val, 0, (grid0.coords t 1).val] := by decide +kernel
theorem xsize_0 : ∀ t : Fin cfg0.N, win0_0.xsize (grid0.coords t) = ![1, min 256 (3204 - 256 * (grid0.coords t 1).val), 2560] := by decide +kernel
theorem xsize_1 : ∀ t : Fin cfg0.N, win0_1.xsize (grid0.coords t) = ![12, min 256 (3202 - 256 * (grid0.coords t 1).val)] := by decide +kernel
theorem xsize_7 : ∀ t : Fin cfg0.N, win0_7.xsize (grid0.coords t) = ![8, 1, 4, 160, min 256 (3202 - 256 * (grid0.coords t 1).val)] := by decide +kernel
theorem xsize_8 : ∀ t : Fin cfg0.N, win0_8.xsize (grid0.coords t) = ![8, 1, 4, min 256 (3202 - 256 * (grid0.coords t 1).val)] := by decide +kernel
theorem xsize_9 : ∀ t : Fin cfg0.N, win0_9.xsize (grid0.coords t) = ![8, 1, 4, 160, min 256 (3202 - 256 * (grid0.coords t 1).val)] := by decide +kernel
theorem xsize_10 : ∀ t : Fin cfg0.N, win0_10.xsize (grid0.coords t) = ![8, 1, 4, min 256 (3202 - 256 * (grid0.coords t 1).val)] := by decide +kernel

theorem covers_7 : (cfg0.win 7).Covers := by decide +kernel
theorem covers_8 : (cfg0.win 8).Covers := by decide +kernel
theorem covers_9 : (cfg0.win 9).Covers := by decide +kernel
theorem covers_10 : (cfg0.win 10).Covers := by decide +kernel

/-! ## The whole windows -/

theorem index_2 : ∀ t : Fin cfg0.N, win0_2.index t = ![0, 0] := by decide +kernel
theorem index_3 : ∀ t : Fin cfg0.N, win0_3.index t = ![0, 0] := by decide +kernel
theorem index_4 : ∀ t : Fin cfg0.N, win0_4.index t = ![0, 0, 0] := by decide +kernel
theorem index_5 : ∀ t : Fin cfg0.N, win0_5.index t = ![0, 0, 0] := by decide +kernel
theorem index_6 : ∀ t : Fin cfg0.N, win0_6.index t = ![0, 0] := by decide +kernel

theorem iblk_2 (c : Dev nD) (t : Fin cfg0.N) : (iblk m c 2 t : Vec Ideal S5120x2560 .fp8e4m3) = V m c main_v3 := by
  funext y; blk_ext [iblk, V, index_2]
theorem iblk_3 (c : Dev nD) (t : Fin cfg0.N) : (iblk m c 3 t : Vec Ideal S5120x2560 .fp8e4m3) = V m c main_v5 := by
  funext y; blk_ext [iblk, V, index_3]
theorem iblk_4 (c : Dev nD) (t : Fin cfg0.N) : (iblk m c 4 t : Vec Ideal S8x4x160 .f32) = V m c main_arg3 := by
  funext y; blk_ext [iblk, V, index_4]
theorem iblk_5 (c : Dev nD) (t : Fin cfg0.N) : (iblk m c 5 t : Vec Ideal S8x4x160 .f32) = V m c main_arg5 := by
  funext y; blk_ext [iblk, V, index_5]
theorem iblk_6 (c : Dev nD) (t : Fin cfg0.N) : (iblk m c 6 t : Vec Ideal S8x160 .f32) = V m c main_arg6 := by
  funext y; blk_ext [iblk, V, index_6]

/-! ## What a grid point sees of the tokens -/

/-- A token row inside the array: the fetched block's row is the array's, whatever lay in the buffer before. -/
theorem x_row (c : Dev nD) (t : Fin cfg0.N) (d : Vec Ideal S1x256x2560 .fp8e4m3) (j : Fin 256)
    (hj : 256 * (grid0.coords t 1).val + j.val < 3202) (e : Fin 2560) :
    (win0_0.fill (grid0.coords t) d (iblk m c 0 t) : Vec Ideal S1x256x2560 .fp8e4m3) (ix3 0 j e)
      = (V m c main_v1 : Vec Ideal S12x3204x2560 .fp8e4m3) (ix3 (grid0.coords t 0) ⟨256 * (grid0.coords t 1).val + j.val, by omega⟩ e) := by
  unfold Window.fill
  have hm : win0_0.moved (grid0.coords t) (ix3 0 j e) = true := by
    rw [Window.moved_iff, xsize_0]
    intro a
    fin_cases a
    · show (0 : ℕ) < 1; omega
    · show j.val < min 256 (3204 - 256 * (grid0.coords t 1).val); omega
    · exact e.isLt
  rw [dif_pos hm]
  blk_ext [iblk, V, index_0]

/-- A token's scale inside the array, likewise. -/
theorem xs_row (c : Dev nD) (t : Fin cfg0.N) (d : Vec Ideal S12x256 .f32) (j : Fin 256)
    (hj : 256 * (grid0.coords t 1).val + j.val < 3202) :
    xrow (grid0.coords t) (win0_1.fill (grid0.coords t) d (iblk m c 1 t) : Vec Ideal S12x256 .f32) (ix2 0 j)
      = (V m c main_arg1 : Vec Ideal S12x3202 .f32) (ix2 (grid0.coords t 0) ⟨256 * (grid0.coords t 1).val + j.val, hj⟩) := by
  rw [xrow_apply]
  unfold Window.fill
  have hm : win0_1.moved (grid0.coords t) (ix2 (grid0.coords t 0) j) = true := by
    rw [Window.moved_iff, xsize_1]
    intro a
    fin_cases a
    · exact (grid0.coords t 0).isLt
    · show j.val < min 256 (3202 - 256 * (grid0.coords t 1).val); omega
  rw [dif_pos hm]
  blk_ext [iblk, V, index_1]

/-! ## The results' columns, of the whole arrays -/

/-- The `d`-th element of one head's projection of token `j` of batch `b`. -/
def fcol (W : Vec Ideal S5120x2560 .fp8e4m3) (x : Vec Ideal S12x3204x2560 .fp8e4m3) (xs : Vec Ideal S12x3202 .f32)
    (s : Vec Ideal S8x4x160 .f32) (l : Fin 8) (h : Fin 4) (b : Fin 12) (j : Fin 3202) (d : Fin 160) : EReal :=
  (∑ e : Fin 2560, W (ix2 ⟨640 * l.val + (160 * h.val + d.val), by omega⟩ e) * x (ix3 b ⟨j.val, by omega⟩ e)) * xs (ix2 b j) * s (ix3 l h d)

/-- The same, normalised and scaled by the layer's weights. -/
def fcolN (W : Vec Ideal S5120x2560 .fp8e4m3) (x : Vec Ideal S12x3204x2560 .fp8e4m3) (xs : Vec Ideal S12x3202 .f32)
    (s : Vec Ideal S8x4x160 .f32) (g : Vec Ideal S8x160 .f32) (l : Fin 8) (h : Fin 4) (b : Fin 12) (j : Fin 3202) : Fin 160 → EReal :=
  Spec.normCol (fcol W x xs s l h b j) (gcol g l)

theorem kcol_eq (c : Dev nD) (t : Fin cfg0.N) (W : Vec Ideal S5120x2560 .fp8e4m3) (s : Vec Ideal S8x4x160 .f32) (d0 d1)
    (l : Fin 8) (h : Fin 4) (j : Fin 256) (hj : 256 * (grid0.coords t 1).val + j.val < 3202) :
    kcol W (xblk (win0_0.fill (grid0.coords t) d0 (iblk m c 0 t))) (xrow (grid0.coords t) (win0_1.fill (grid0.coords t) d1 (iblk m c 1 t))) s l h j
      = fcol W (V m c main_v1) (V m c main_arg1) s l h (grid0.coords t 0) ⟨256 * (grid0.coords t 1).val + j.val, hj⟩ := by
  funext d
  unfold kcol fcol
  rw [xblk_eq, xs_row m c t d1 j hj]
  congr 2
  refine Finset.sum_congr rfl fun e _ => ?_
  rw [x_row m c t d0 j hj e]

theorem kcolN_eq (c : Dev nD) (t : Fin cfg0.N) (W : Vec Ideal S5120x2560 .fp8e4m3) (s : Vec Ideal S8x4x160 .f32) (g : Vec Ideal S8x160 .f32) (d0 d1)
    (l : Fin 8) (h : Fin 4) (j : Fin 256) (hj : 256 * (grid0.coords t 1).val + j.val < 3202) :
    kcolN W (xblk (win0_0.fill (grid0.coords t) d0 (iblk m c 0 t))) (xrow (grid0.coords t) (win0_1.fill (grid0.coords t) d1 (iblk m c 1 t))) s g l h j
      = fcolN W (V m c main_v1) (V m c main_arg1) s g l h (grid0.coords t 0) ⟨256 * (grid0.coords t 1).val + j.val, hj⟩ := by
  unfold kcolN fcolN
  rw [kcol_eq m c t W s d0 d1 l h j hj]

end Cert.KernelIdeal.Exact

end
-- ==== Proof.KIExactRun.lean ====
module

public import proofs.«01_k».proof.Proof.KIGeom

@[expose] public section

set_option maxRecDepth 16384

noncomputable section

namespace Cert.KernelIdeal.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The body at any point: the results hold their targets; the scratch, unless it is filled there, is found filled. -/
theorem exact_any (c : Dev nD) (E : Set ℕ) (i : grid0.Coords) (arg2 : Memref sig .tc .vmem S1x256x2560 .fp8e4m3) (harg2 : arg2.IsWhole) (arg3 : Memref sig .tc .vmem S12x256 .f32) (harg3 : arg3.IsWhole) (arg4 : Memref sig .tc .vmem S5120x2560 .fp8e4m3) (harg4 : arg4.IsWhole) (arg5 : Memref sig .tc .vmem S5120x2560 .fp8e4m3) (harg5 : arg5.IsWhole) (arg6 : Memref sig .tc .vmem S8x4x160 .f32) (harg6 : arg6.IsWhole) (arg7 : Memref sig .tc .vmem S8x4x160 .f32) (harg7 : arg7.IsWhole) (arg8 : Memref sig .tc .vmem S8x160 .f32) (harg8 : arg8.IsWhole) (arg9 : Memref sig .tc .vmem S8x1x4x160x256 .fp8e4m3) (harg9 : arg9.IsWhole) (arg10 : Memref sig .tc .vmem S8x1x4x256 .f32) (harg10 : arg10.IsWhole) (arg11 : Memref sig .tc .vmem S8x1x4x160x256 .fp8e4m3) (harg11 : arg11.IsWhole) (arg12 : Memref sig .tc .vmem S8x1x4x256 .f32) (harg12 : arg12.IsWhole) (arg13 : Memref sig .tc .vmem S8x4x160x128 .f32) (harg13 : arg13.IsWhole) (arg14 : Memref sig .tc .vmem S8x4x160x128 .f32) (harg14 : arg14.IsWhole) (arg15 : Memref sig .tc .vmem S8x160x128 .f32) (harg15 : arg15.IsWhole)
    (x2 : Vec Ideal S1x256x2560 .fp8e4m3) (x3 : Vec Ideal S12x256 .f32) (x4 : Vec Ideal S5120x2560 .fp8e4m3) (x5 : Vec Ideal S5120x2560 .fp8e4m3) (x6 : Vec Ideal S8x4x160 .f32) (x7 : Vec Ideal S8x4x160 .f32) (x8 : Vec Ideal S8x160 .f32) (K : PUnit → sProp 𝕄) :
    iprop((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (if Own.InitCond i then iprop((∃ d, owns (c : Thread nD τ) arg13 fullShare d) ∗ (∃ d, owns (c : Thread nD τ) arg14 fullShare d) ∗ (∃ d, owns (c : Thread nD τ) arg15 fullShare d)) else iprop(owns (c : Thread nD τ) arg13 fullShare (lanes4 x6) ∗ owns (c : Thread nD τ) arg14 fullShare (lanes4 x7) ∗ owns (c : Thread nD τ) arg15 fullShare (lanes3 x8))))
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (codesOf (kcolN x4 (xblk x2) (xrow i x3) x6 x8)) ∗ owns (c : Thread nD τ) arg10 fullShare (scalesOf (kcolN x4 (xblk x2) (xrow i x3) x6 x8)) ∗ owns (c : Thread nD τ) arg11 fullShare (codesOf (kcol x5 (xblk x2) (xrow i x3) x7)) ∗ owns (c : Thread nD τ) arg12 fullShare (scalesOf (kcol x5 (xblk x2) (xrow i x3) x7)) ∗ owns (c : Thread nD τ) arg13 fullShare (lanes4 x6) ∗ owns (c : Thread nD τ) arg14 fullShare (lanes4 x7) ∗ owns (c : Thread nD τ) arg15 fullShare (lanes3 x8)) -∗ K ⟨⟩))
      ⊢ wp frame (wpE (defs₀ (F := Ideal)) Variants.none c none) E (cc0_kv_fill i arg2 harg2 arg3 harg3 arg4 harg4 arg5 harg5 arg6 harg6 arg7 harg7 arg8 harg8 arg9 harg9 arg10 harg10 arg11 harg11 arg12 harg12 arg13 harg13 arg14 harg14 arg15 harg15) K := by
  by_cases hc : Own.InitCond i
  · rw [if_pos hc]
    exact exact_first c E i hc arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 K
  · rw [if_neg hc]
    exact exact_rest c E i hc arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 K

/-- What the body leaves in result window 7 at point `t`, its tokens' buffers holding `d0` and `d1` past the array. -/
def left7 (c : Dev nD) (t : Fin cfg0.N) (d0 : Vec Ideal S1x256x2560 .fp8e4m3) (d1 : Vec Ideal S12x256 .f32) : Vec Ideal S8x1x4x160x256 .fp8e4m3 :=
  codesOf (kcolN (iblk m c 2 t) (xblk (win0_0.fill (grid0.coords t) d0 (iblk m c 0 t))) (xrow (grid0.coords t) (win0_1.fill (grid0.coords t) d1 (iblk m c 1 t))) (iblk m c 4 t) (iblk m c 6 t))

/-- What the body leaves in result window 8 at point `t`, its tokens' buffers holding `d0` and `d1` past the array. -/
def left8 (c : Dev nD) (t : Fin cfg0.N) (d0 : Vec Ideal S1x256x2560 .fp8e4m3) (d1 : Vec Ideal S12x256 .f32) : Vec Ideal S8x1x4x256 .f32 :=
  scalesOf (kcolN (iblk m c 2 t) (xblk (win0_0.fill (grid0.coords t) d0 (iblk m c 0 t))) (xrow (grid0.coords t) (win0_1.fill (grid0.coords t) d1 (iblk m c 1 t))) (iblk m c 4 t) (iblk m c 6 t))

/-- What the body leaves in result window 9 at point `t`, its tokens' buffers holding `d0` and `d1` past the array. -/
def left9 (c : Dev nD) (t : Fin cfg0.N) (d0 : Vec Ideal S1x256x2560 .fp8e4m3) (d1 : Vec Ideal S12x256 .f32) : Vec Ideal S8x1x4x160x256 .fp8e4m3 :=
  codesOf (kcol (iblk m c 3 t) (xblk (win0_0.fill (grid0.coords t) d0 (iblk m c 0 t))) (xrow (grid0.coords t) (win0_1.fill (grid0.coords t) d1 (iblk m c 1 t))) (iblk m c 5 t))

/-- What the body leaves in result window 10 at point `t`, its tokens' buffers holding `d0` and `d1` past the array. -/
def left10 (c : Dev nD) (t : Fin cfg0.N) (d0 : Vec Ideal S1x256x2560 .fp8e4m3) (d1 : Vec Ideal S12x256 .f32) : Vec Ideal S8x1x4x256 .f32 :=
  scalesOf (kcol (iblk m c 3 t) (xblk (win0_0.fill (grid0.coords t) d0 (iblk m c 0 t))) (xrow (grid0.coords t) (win0_1.fill (grid0.coords t) d1 (iblk m c 1 t))) (iblk m c 5 t))

/-- What result 1 of the kernel holds after the run, index by index. -/
def final7 (c : Dev nD) : Vec Ideal S8x12x4x160x3202 .fp8e4m3 :=
  fun y => Spec.code (fcolN (V m c main_v3) (V m c main_v1) (V m c main_arg1) (V m c main_arg3) (V m c main_arg6) (y 0) (y 2) (y 1) (y 4)) (y 3)

theorem left7_apply (c : Dev nD) (t : Fin cfg0.N) (d0 d1) (y : (win0_7.xblock (grid0.coords t)).Idx) :
    left7 m c t d0 d1 (win0_7.xinj (grid0.coords t) y) = final7 m c ((win0_7.blk t).view.emb y) := by
  have hy := (y 4).isLt
  have hx : (win0_7.xblock (grid0.coords t)).size 4 = min 256 (3202 - 256 * (grid0.coords t 1).val) := congrFun (xsize_7 t) 4
  have hy' : (y 4).val < min 256 (3202 - 256 * (grid0.coords t 1).val) := hx ▸ hy
  have hj : 256 * (grid0.coords t 1).val + ((win0_7.xinj (grid0.coords t) y) 4).val < 3202 := by
    show 256 * (grid0.coords t 1).val + (y 4).val < 3202; omega
  have h1 : (y 1).val = 0 := by
    have h := (y 1).isLt
    have h' : (win0_7.xblock (grid0.coords t)).size 1 = 1 := congrFun (xsize_7 t) 1
    omega
  have e : (win0_7.blk t).view.emb y = ix5 ((win0_7.xinj (grid0.coords t) y) 0) (grid0.coords t 0) ((win0_7.xinj (grid0.coords t) y) 2) ((win0_7.xinj (grid0.coords t) y) 3) ⟨256 * (grid0.coords t 1).val + ((win0_7.xinj (grid0.coords t) y) 4).val, hj⟩ := by
    funext a
    apply Fin.ext
    have ev : (((win0_7.blk t).view.emb y) a : ℕ) = win0_7.index t a * win0_7.size a + (y a).val := by blk_simp
    rw [ev, index_7]
    fin_cases a
    · show 0 * 8 + (y 0).val = (y 0).val; omega
    · show (grid0.coords t 0).val * 1 + (y 1).val = (grid0.coords t 0).val; omega
    · show 0 * 4 + (y 2).val = (y 2).val; omega
    · show 0 * 160 + (y 3).val = (y 3).val; omega
    · show (grid0.coords t 1).val * 256 + (y 4).val = 256 * (grid0.coords t 1).val + (y 4).val; omega
  rw [e]
  have k := kcolN_eq m c t (iblk m c 2 t) (iblk m c 4 t) (iblk m c 6 t) d0 d1 ((win0_7.xinj (grid0.coords t) y) 0) ((win0_7.xinj (grid0.coords t) y) 2) ((win0_7.xinj (grid0.coords t) y) 4) hj
  have r : fcolN (iblk m c 2 t) (V m c main_v1) (V m c main_arg1) (iblk m c 4 t) (iblk m c 6 t) = fcolN (V m c main_v3) (V m c main_v1) (V m c main_arg1) (V m c main_arg3) (V m c main_arg6) := by
    rw [iblk_2, iblk_4, iblk_6]
  rw [r] at k
  exact congrArg (fun col => Spec.code col ((win0_7.xinj (grid0.coords t) y) 3)) k

/-- What result 2 of the kernel holds after the run, index by index. -/
def final8 (c : Dev nD) : Vec Ideal S8x12x4x3202 .f32 :=
  fun y => Spec.scale (fcolN (V m c main_v3) (V m c main_v1) (V m c main_arg1) (V m c main_arg3) (V m c main_arg6) (y 0) (y 2) (y 1) (y 3))

theorem left8_apply (c : Dev nD) (t : Fin cfg0.N) (d0 d1) (y : (win0_8.xblock (grid0.coords t)).Idx) :
    left8 m c t d0 d1 (win0_8.xinj (grid0.coords t) y) = final8 m c ((win0_8.blk t).view.emb y) := by
  have hy := (y 3).isLt
  have hx : (win0_8.xblock (grid0.coords t)).size 3 = min 256 (3202 - 256 * (grid0.coords t 1).val) := congrFun (xsize_8 t) 3
  have hy' : (y 3).val < min 256 (3202 - 256 * (grid0.coords t 1).val) := hx ▸ hy
  have hj : 256 * (grid0.coords t 1).val + ((win0_8.xinj (grid0.coords t) y) 3).val < 3202 := by
    show 256 * (grid0.coords t 1).val + (y 3).val < 3202; omega
  have h1 : (y 1).val = 0 := by
    have h := (y 1).isLt
    have h' : (win0_8.xblock (grid0.coords t)).size 1 = 1 := congrFun (xsize_8 t) 1
    omega
  have e : (win0_8.blk t).view.emb y = ix4 ((win0_8.xinj (grid0.coords t) y) 0) (grid0.coords t 0) ((win0_8.xinj (grid0.coords t) y) 2) ⟨256 * (grid0.coords t 1).val + ((win0_8.xinj (grid0.coords t) y) 3).val, hj⟩ := by
    funext a
    apply Fin.ext
    have ev : (((win0_8.blk t).view.emb y) a : ℕ) = win0_8.index t a * win0_8.size a + (y a).val := by blk_simp
    rw [ev, index_8]
    fin_cases a
    · show 0 * 8 + (y 0).val = (y 0).val; omega
    · show (grid0.coords t 0).val * 1 + (y 1).val = (grid0.coords t 0).val; omega
    · show 0 * 4 + (y 2).val = (y 2).val; omega
    · show (grid0.coords t 1).val * 256 + (y 3).val = 256 * (grid0.coords t 1).val + (y 3).val; omega
  rw [e]
  have k := kcolN_eq m c t (iblk m c 2 t) (iblk m c 4 t) (iblk m c 6 t) d0 d1 ((win0_8.xinj (grid0.coords t) y) 0) ((win0_8.xinj (grid0.coords t) y) 2) ((win0_8.xinj (grid0.coords t) y) 3) hj
  have r : fcolN (iblk m c 2 t) (V m c main_v1) (V m c main_arg1) (iblk m c 4 t) (iblk m c 6 t) = fcolN (V m c main_v3) (V m c main_v1) (V m c main_arg1) (V m c main_arg3) (V m c main_arg6) := by
    rw [iblk_2, iblk_4, iblk_6]
  rw [r] at k
  exact congrArg (fun col => Spec.scale col) k

/-- What result 3 of the kernel holds after the run, index by index. -/
def final9 (c : Dev nD) : Vec Ideal S8x12x4x160x3202 .fp8e4m3 :=
  fun y => Spec.code (fcol (V m c main_v5) (V m c main_v1) (V m c main_arg1) (V m c main_arg5) (y 0) (y 2) (y 1) (y 4)) (y 3)

theorem left9_apply (c : Dev nD) (t : Fin cfg0.N) (d0 d1) (y : (win0_9.xblock (grid0.coords t)).Idx) :
    left9 m c t d0 d1 (win0_9.xinj (grid0.coords t) y) = final9 m c ((win0_9.blk t).view.emb y) := by
  have hy := (y 4).isLt
  have hx : (win0_9.xblock (grid0.coords t)).size 4 = min 256 (3202 - 256 * (grid0.coords t 1).val) := congrFun (xsize_9 t) 4
  have hy' : (y 4).val < min 256 (3202 - 256 * (grid0.coords t 1).val) := hx ▸ hy
  have hj : 256 * (grid0.coords t 1).val + ((win0_9.xinj (grid0.coords t) y) 4).val < 3202 := by
    show 256 * (grid0.coords t 1).val + (y 4).val < 3202; omega
  have h1 : (y 1).val = 0 := by
    have h := (y 1).isLt
    have h' : (win0_9.xblock (grid0.coords t)).size 1 = 1 := congrFun (xsize_9 t) 1
    omega
  have e : (win0_9.blk t).view.emb y = ix5 ((win0_9.xinj (grid0.coords t) y) 0) (grid0.coords t 0) ((win0_9.xinj (grid0.coords t) y) 2) ((win0_9.xinj (grid0.coords t) y) 3) ⟨256 * (grid0.coords t 1).val + ((win0_9.xinj (grid0.coords t) y) 4).val, hj⟩ := by
    funext a
    apply Fin.ext
    have ev : (((win0_9.blk t).view.emb y) a : ℕ) = win0_9.index t a * win0_9.size a + (y a).val := by blk_simp
    rw [ev, index_9]
    fin_cases a
    · show 0 * 8 + (y 0).val = (y 0).val; omega
    · show (grid0.coords t 0).val * 1 + (y 1).val = (grid0.coords t 0).val; omega
    · show 0 * 4 + (y 2).val = (y 2).val; omega
    · show 0 * 160 + (y 3).val = (y 3).val; omega
    · show (grid0.coords t 1).val * 256 + (y 4).val = 256 * (grid0.coords t 1).val + (y 4).val; omega
  rw [e]
  have k := kcol_eq m c t (iblk m c 3 t) (iblk m c 5 t) d0 d1 ((win0_9.xinj (grid0.coords t) y) 0) ((win0_9.xinj (grid0.coords t) y) 2) ((win0_9.xinj (grid0.coords t) y) 4) hj
  have r : fcol (iblk m c 3 t) (V m c main_v1) (V m c main_arg1) (iblk m c 5 t) = fcol (V m c main_v5) (V m c main_v1) (V m c main_arg1) (V m c main_arg5) := by
    rw [iblk_3, iblk_5]
  rw [r] at k
  exact congrArg (fun col => Spec.code col ((win0_9.xinj (grid0.coords t) y) 3)) k

/-- What result 4 of the kernel holds after the run, index by index. -/
def final10 (c : Dev nD) : Vec Ideal S8x12x4x3202 .f32 :=
  fun y => Spec.scale (fcol (V m c main_v5) (V m c main_v1) (V m c main_arg1) (V m c main_arg5) (y 0) (y 2) (y 1) (y 3))

theorem left10_apply (c : Dev nD) (t : Fin cfg0.N) (d0 d1) (y : (win0_10.xblock (grid0.coords t)).Idx) :
    left10 m c t d0 d1 (win0_10.xinj (grid0.coords t) y) = final10 m c ((win0_10.blk t).view.emb y) := by
  have hy := (y 3).isLt
  have hx : (win0_10.xblock (grid0.coords t)).size 3 = min 256 (3202 - 256 * (grid0.coords t 1).val) := congrFun (xsize_10 t) 3
  have hy' : (y 3).val < min 256 (3202 - 256 * (grid0.coords t 1).val) := hx ▸ hy
  have hj : 256 * (grid0.coords t 1).val + ((win0_10.xinj (grid0.coords t) y) 3).val < 3202 := by
    show 256 * (grid0.coords t 1).val + (y 3).val < 3202; omega
  have h1 : (y 1).val = 0 := by
    have h := (y 1).isLt
    have h' : (win0_10.xblock (grid0.coords t)).size 1 = 1 := congrFun (xsize_10 t) 1
    omega
  have e : (win0_10.blk t).view.emb y = ix4 ((win0_10.xinj (grid0.coords t) y) 0) (grid0.coords t 0) ((win0_10.xinj (grid0.coords t) y) 2) ⟨256 * (grid0.coords t 1).val + ((win0_10.xinj (grid0.coords t) y) 3).val, hj⟩ := by
    funext a
    apply Fin.ext
    have ev : (((win0_10.blk t).view.emb y) a : ℕ) = win0_10.index t a * win0_10.size a + (y a).val := by blk_simp
    rw [ev, index_10]
    fin_cases a
    · show 0 * 8 + (y 0).val = (y 0).val; omega
    · show (grid0.coords t 0).val * 1 + (y 1).val = (grid0.coords t 0).val; omega
    · show 0 * 4 + (y 2).val = (y 2).val; omega
    · show (grid0.coords t 1).val * 256 + (y 3).val = 256 * (grid0.coords t 1).val + (y 3).val; omega
  rw [e]
  have k := kcol_eq m c t (iblk m c 3 t) (iblk m c 5 t) d0 d1 ((win0_10.xinj (grid0.coords t) y) 0) ((win0_10.xinj (grid0.coords t) y) 2) ((win0_10.xinj (grid0.coords t) y) 3) hj
  have r : fcol (iblk m c 3 t) (V m c main_v1) (V m c main_arg1) (iblk m c 5 t) = fcol (V m c main_v5) (V m c main_v1) (V m c main_arg1) (V m c main_arg5) := by
    rw [iblk_3, iblk_5]
  rw [r] at k
  exact congrArg (fun col => Spec.scale col) k

/-! ## The run's proof data -/

/-- The scratch, filled: each layer's scales and norm weights over 128 lanes. -/
def tables (c : Dev nD) : sProp 𝕄 :=
  iprop(owns (c : Thread nD τ) (Memref.whole cc0_scratch0) fullShare (lanes4 (V m c main_arg3)) ∗ owns (c : Thread nD τ) (Memref.whole cc0_scratch1) fullShare (lanes4 (V m c main_arg5)) ∗ owns (c : Thread nD τ) (Memref.whole cc0_scratch2) fullShare (lanes3 (V m c main_arg6)))

/-- Between grid points: before the first the scratch holds anything, afterwards its tables. -/
def inv (c : Dev nD) (n : ℕ) : sProp 𝕄 :=
  if n = 0 then Pipeline.ΦA spec0 c else iprop(tables m c ∗ ∃ r, prngReg c r)

/-- The proof data of the run: the inputs' buffers hold their blocks, the results' what the body leaves there. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) Own.junk (iblk m c 0 t)
    | ⟨1, _⟩ => win0_1.fill (grid0.coords t) Own.junk (iblk m c 1 t)
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => left7 m c t Own.junk Own.junk
    | ⟨8, _⟩ => left8 m c t Own.junk Own.junk
    | ⟨9, _⟩ => left9 m c t Own.junk Own.junk
    | ⟨10, _⟩ => left10 m c t Own.junk Own.junk
  Φ t := inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = win0_0.fill (grid0.coords t) Own.junk (iblk m c 0 t) := by dsimp only [dats]
theorem after_1 (c : Dev nD) (t : Fin cfg0.N) : (dats m 0 c).after 1 t = win0_1.fill (grid0.coords t) Own.junk (iblk m c 1 t) := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem before_0 (c : Dev nD) (t : Fin cfg0.N) (d) : (dats m 0 c).before 0 t d = win0_0.fill (grid0.coords t) d (iblk m c 0 t) := by
  unfold Dat.before; rw [if_pos (fetch0_0 t)]; rfl
theorem before_1 (c : Dev nD) (t : Fin cfg0.N) (d) : (dats m 0 c).before 1 t d = win0_1.fill (grid0.coords t) d (iblk m c 1 t) := by
  unfold Dat.before; rw [if_pos (fetch0_1 t)]; rfl
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

theorem after_7 (c : Dev nD) (t : Fin cfg0.N) : (dats m 0 c).after 7 t = left7 m c t Own.junk Own.junk := by dsimp only [dats]
theorem after_8 (c : Dev nD) (t : Fin cfg0.N) : (dats m 0 c).after 8 t = left8 m c t Own.junk Own.junk := by dsimp only [dats]
theorem after_9 (c : Dev nD) (t : Fin cfg0.N) : (dats m 0 c).after 9 t = left9 m c t Own.junk Own.junk := by dsimp only [dats]
theorem after_10 (c : Dev nD) (t : Fin cfg0.N) : (dats m 0 c).after 10 t = left10 m c t Own.junk Own.junk := by dsimp only [dats]

theorem cut_7 (c : Dev nD) (t : Fin cfg0.N) (d0 d1) :
    win0_7.fill (grid0.coords t) (left7 m c t d0 d1) (win0_7.cut (grid0.coords t) ((dats m 0 c).after 7 t)) = left7 m c t d0 d1 := by
  rw [after_7]
  refine Window.fill_congr_cut _ _ ?_
  funext y
  exact (left7_apply m c t d0 d1 y).trans (left7_apply m c t Own.junk Own.junk y).symm

theorem cut_8 (c : Dev nD) (t : Fin cfg0.N) (d0 d1) :
    win0_8.fill (grid0.coords t) (left8 m c t d0 d1) (win0_8.cut (grid0.coords t) ((dats m 0 c).after 8 t)) = left8 m c t d0 d1 := by
  rw [after_8]
  refine Window.fill_congr_cut _ _ ?_
  funext y
  exact (left8_apply m c t d0 d1 y).trans (left8_apply m c t Own.junk Own.junk y).symm

theorem cut_9 (c : Dev nD) (t : Fin cfg0.N) (d0 d1) :
    win0_9.fill (grid0.coords t) (left9 m c t d0 d1) (win0_9.cut (grid0.coords t) ((dats m 0 c).after 9 t)) = left9 m c t d0 d1 := by
  rw [after_9]
  refine Window.fill_congr_cut _ _ ?_
  funext y
  exact (left9_apply m c t d0 d1 y).trans (left9_apply m c t Own.junk Own.junk y).symm

theorem cut_10 (c : Dev nD) (t : Fin cfg0.N) (d0 d1) :
    win0_10.fill (grid0.coords t) (left10 m c t d0 d1) (win0_10.cut (grid0.coords t) ((dats m 0 c).after 10 t)) = left10 m c t d0 d1 := by
  rw [after_10]
  refine Window.fill_congr_cut _ _ ?_
  funext y
  exact (left10_apply m c t d0 d1 y).trans (left10_apply m c t Own.junk Own.junk y).symm

/-- The scratch as a grid point finds it. -/
theorem inv_open (c : Dev nD) (t : Fin cfg0.N) : inv m c t.val ⊢
    iprop((if Own.InitCond (grid0.coords t) then iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) else iprop(owns (c : Thread nD τ) (Memref.whole cc0_scratch0) fullShare (lanes4 (iblk m c 4 t)) ∗ owns (c : Thread nD τ) (Memref.whole cc0_scratch1) fullShare (lanes4 (iblk m c 5 t)) ∗ owns (c : Thread nD τ) (Memref.whole cc0_scratch2) fullShare (lanes3 (iblk m c 6 t)))) ∗ ∃ r, prngReg c r) := by
  unfold inv
  by_cases h : t.val = 0
  · rw [if_pos h, if_pos ((init_iff t).mpr h)]
    unfold Pipeline.ΦA
    rw [scopedRest0_eq]
    iintro ⟨⟨⟨%s0, S0⟩, ⟨%s1, S1⟩, ⟨%s2, S2⟩⟩, Hr⟩
    isplitr [Hr]
    · isplitl [S0]; · iapply (Own.owns_of_pts c cc0_scratch0 s0); iexact S0
      isplitl [S1]; · iapply (Own.owns_of_pts c cc0_scratch1 s1); iexact S1
      iapply (Own.owns_of_pts c cc0_scratch2 s2); iexact S2
    iexact Hr
  · rw [if_neg h, if_neg (mt (init_iff t).mp h), iblk_4, iblk_5, iblk_6]
    unfold tables
    iintro H; iexact H

/-- The scratch as a grid point leaves it. -/
theorem inv_close (c : Dev nD) (t : Fin cfg0.N) :
    iprop((owns (c : Thread nD τ) (Memref.whole cc0_scratch0) fullShare (lanes4 (iblk m c 4 t)) ∗ owns (c : Thread nD τ) (Memref.whole cc0_scratch1) fullShare (lanes4 (iblk m c 5 t)) ∗ owns (c : Thread nD τ) (Memref.whole cc0_scratch2) fullShare (lanes3 (iblk m c 6 t))) ∗ ∃ r, prngReg c r) ⊢ inv m c (t.val + 1) := by
  unfold inv
  rw [if_neg (Nat.succ_ne_zero _), iblk_4, iblk_5, iblk_6]
  unfold tables
  iintro H; iexact H

/-- After the last point the scratch holds something. -/
theorem inv_last (c : Dev nD) : inv m c 156 ⊢ Pipeline.ΦA spec0 c := by
  unfold inv
  rw [if_neg (by decide)]
  unfold Pipeline.ΦA tables
  rw [scopedRest0_eq]
  iintro ⟨⟨S0, S1, S2⟩, Hr⟩
  isplitr [Hr]
  · isplitl [S0]; · iapply (Own.pts_of_owns c cc0_scratch0); iexists _; iexact S0
    isplitl [S1]; · iapply (Own.pts_of_owns c cc0_scratch1); iexists _; iexact S1
    iapply (Own.pts_of_owns c cc0_scratch2); iexists _; iexact S2
  iexact Hr

set_option maxHeartbeats 4000000 in
/-- The library's body obligation. -/
theorem body_obligation (c : Dev nD) : BodyObligationLoose (dats m 0 c) (defs₀ (F := Ideal)) Variants.none () Set.univ := fun t => by
  rw [bigSep_W0, bigSep_W0, Own.defs₀_row]
  simp only
  rw [show (dats m 0 c).Φ t.succ = inv m c (t.val + 1) from rfl, show (dats m 0 c).Φ t.castSucc = inv m c t.val from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before_0, before_1, before_2, before_3, before_4, before_5, before_6]
  ihave HΦ := inv_open m c t $$ HΦ
  icases HΦ with ⟨S, Hr⟩
  iapply (exact_any c Set.univ (grid0.coords t) _ _ _ _ _ _ _ _ _ _ _ _ _ _ _ _ _ _ _ _ _ _ _ _ _ _ _ _
    (win0_0.fill (grid0.coords t) d0 (iblk m c 0 t)) (win0_1.fill (grid0.coords t) d1 (iblk m c 1 t)) (iblk m c 2 t) (iblk m c 3 t) (iblk m c 4 t) (iblk m c 5 t) (iblk m c 6 t) _)
  isplitl [H0 H1 H2 H3 H4 H5 H6 H7 H8 H9 H10 S]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    iexact S
  iintro ⟨H0, H1, H2, H3, H4, H5, H6, H7, H8, H9, H10, S⟩
  isplitl [S Hr]
  · iapply (inv_close m c t)
    isplitl [S]; · iexact S
    iexact Hr
  isplitl [Ho]
  · iexact Ho
  isplitl [H0]
  · iexists d0
    change _ ⊢ owns (c : Thread nD τ) (st0_0 t) fullShare (win0_0.fill (grid0.coords t) d0 (win0_0.cut (grid0.coords t) ((dats m 0 c).after 0 t)))
    rw [after_0, Window.cut_fill]; try iexact H0
  isplitl [H1]
  · iexists d1
    change _ ⊢ owns (c : Thread nD τ) (st0_1 t) fullShare (win0_1.fill (grid0.coords t) d1 (win0_1.cut (grid0.coords t) ((dats m 0 c).after 1 t)))
    rw [after_1, Window.cut_fill]; try iexact H1
  isplitl [H2]
  · rw [after_2]; iexact H2
  isplitl [H3]
  · rw [after_3]; iexact H3
  isplitl [H4]
  · rw [after_4]; iexact H4
  isplitl [H5]
  · rw [after_5]; iexact H5
  isplitl [H6]
  · rw [after_6]; iexact H6
  isplitl [H7]
  · iexists (left7 m c t d0 d1)
    change _ ⊢ owns (c : Thread nD τ) (st0_7 t) fullShare (win0_7.fill (grid0.coords t) (left7 m c t d0 d1) (win0_7.cut (grid0.coords t) ((dats m 0 c).after 7 t)))
    rw [cut_7]; unfold left7; iintro H; iexact H
  isplitl [H8]
  · iexists (left8 m c t d0 d1)
    change _ ⊢ owns (c : Thread nD τ) (st0_8 t) fullShare (win0_8.fill (grid0.coords t) (left8 m c t d0 d1) (win0_8.cut (grid0.coords t) ((dats m 0 c).after 8 t)))
    rw [cut_8]; unfold left8; iintro H; iexact H
  isplitl [H9]
  · iexists (left9 m c t d0 d1)
    change _ ⊢ owns (c : Thread nD τ) (st0_9 t) fullShare (win0_9.fill (grid0.coords t) (left9 m c t d0 d1) (win0_9.cut (grid0.coords t) ((dats m 0 c).after 9 t)))
    rw [cut_9]; unfold left9; iintro H; iexact H
  · iexists (left10 m c t d0 d1)
    change _ ⊢ owns (c : Thread nD τ) (st0_10 t) fullShare (win0_10.fill (grid0.coords t) (left10 m c t d0 d1) (win0_10.cut (grid0.coords t) ((dats m 0 c).after 10 t)))
    rw [cut_10]; unfold left10; iintro H; iexact H

set_option backward.isDefEq.respectTransparency.types false in
set_option maxHeartbeats 800000 in
/-- The run: every array holds what its write-backs leave, every other buffer what the host lines leave. -/
theorem run : θ_run defs (onTc (τ := τ) (main (F := Ideal))) (s₀ m ρ)
    (Pipeline.FramePost cfgs (dats m) 0 (Pipeline.afterTail₀ cfgs (dats m) 0 (V0 m) [hostOps1])) :=
  Pipeline.θ_run_frame_around_track (Q' := _) cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => (by rw [show (dats m 0 c).Φ 0 = inv m c 0 from rfl]; unfold inv; rw [if_pos rfl]))
    (hout := fun c => inv_last m c)

theorem arr_7 (c : Dev nD) : (dats m 0 c).arrAt 7 cfg0.N = final7 m c := by
  refine (dats m 0 c).arrAt_eq_of_covers 7 _ covers_7 fun t hf y => ?_
  rw [after_7]
  exact left7_apply m c t Own.junk Own.junk y

theorem arr_8 (c : Dev nD) : (dats m 0 c).arrAt 8 cfg0.N = final8 m c := by
  refine (dats m 0 c).arrAt_eq_of_covers 8 _ covers_8 fun t hf y => ?_
  rw [after_8]
  exact left8_apply m c t Own.junk Own.junk y

theorem arr_9 (c : Dev nD) : (dats m 0 c).arrAt 9 cfg0.N = final9 m c := by
  refine (dats m 0 c).arrAt_eq_of_covers 9 _ covers_9 fun t hf y => ?_
  rw [after_9]
  exact left9_apply m c t Own.junk Own.junk y

theorem arr_10 (c : Dev nD) : (dats m 0 c).arrAt 10 cfg0.N = final10 m c := by
  refine (dats m 0 c).arrAt_eq_of_covers 10 _ covers_10 fun t hf y => ?_
  rw [after_10]
  exact left10_apply m c t Own.junk Own.junk y

end Cert.KernelIdeal.Exact

end
-- ==== Proof.Result.lean ====
module

public import proofs.«01_k».proof.Proof.Math
public import Idealize.ShloMosaic.Lib.Pointwise.Index
public import Idealize.ShloMosaic.Lib.Pointwise.IndexBridge

@[expose] public section

noncomputable section

namespace Cert.Spec

open Idealize.ShloMosaic

/-! # The four results, from the arguments

Both programs end with these arrays. Layer `l`, batch `b`, token `j`, head `h`: a column is the 160 values of a projection
of one token, for one head of one layer. -/

/-- One column of a projection of the tokens, with the scales of the tokens and of the weights. -/
def col (x : (⟨3, ![12, 3202, 2560]⟩ : Shape).Idx → EReal) (xs : (⟨2, ![12, 3202]⟩ : Shape).Idx → EReal)
    (w : (⟨4, ![8, 2560, 4, 160]⟩ : Shape).Idx → EReal) (s : (⟨3, ![8, 4, 160]⟩ : Shape).Idx → EReal)
    (l : Fin 8) (h : Fin 4) (b : Fin 12) (j : Fin 3202) (d : Fin 160) : EReal :=
  (∑ e : Fin 2560, x (ix3 b j e) * w (ix4 l e h d)) * xs (ix2 b j) * s (ix3 l h d)

/-- The same column after the norm. -/
def colN (x : (⟨3, ![12, 3202, 2560]⟩ : Shape).Idx → EReal) (xs : (⟨2, ![12, 3202]⟩ : Shape).Idx → EReal)
    (w : (⟨4, ![8, 2560, 4, 160]⟩ : Shape).Idx → EReal) (s : (⟨3, ![8, 4, 160]⟩ : Shape).Idx → EReal)
    (g : (⟨2, ![8, 160]⟩ : Shape).Idx → EReal)
    (l : Fin 8) (h : Fin 4) (b : Fin 12) (j : Fin 3202) : Fin 160 → EReal :=
  normCol (col x xs w s l h b j) fun d => g (ix2 l d)

/-- The codes of every column. -/
def codes (v : Fin 8 → Fin 4 → Fin 12 → Fin 3202 → Fin 160 → EReal) : (⟨5, ![8, 12, 3202, 4, 160]⟩ : Shape).Idx → EReal :=
  fun y => code (v (y 0) (y 3) (y 1) (y 2)) (y 4)

/-- The scales of every column. -/
def scales (v : Fin 8 → Fin 4 → Fin 12 → Fin 3202 → Fin 160 → EReal) : (⟨4, ![8, 12, 3202, 4]⟩ : Shape).Idx → EReal :=
  fun y => scale (v (y 0) (y 3) (y 1) (y 2))

end Cert.Spec

end
-- ==== Proof.KIResult.lean ====
module

public import proofs.«01_k».proof.Proof.KIExactRun
public import proofs.«01_k».proof.Proof.Result
public import Idealize.ShloMosaic.Lib.Claim
public import proofs.«01_k».proof.Proof.KIFrameRun
public import Idealize.ShloMosaic.Lib.Pointwise.Select

@[expose] public section

set_option maxRecDepth 16384

noncomputable section

namespace Cert.KernelIdeal.Exact

open Cert.KernelIdeal Cert.KernelIdeal.Gen
open Idealize.ShloMosaic Idealize.ShloMosaic.TcCoe Idealize.ShloMosaic.Pipeline Idealize.SL.Sem

/-! # The kernel's results from its arguments -/

variable (m : (ℓ : Loc nD τ sig) → Buf (Elt Ideal) ℓ) (ρ : Dev nD → PrngReg)

theorem v1_eq (c : Dev nD) : V m c main_v1
    = concatenate S12x3204x2560 1 [⟨S12x3202x2560, m ((c.tc : Thread nD τ).loc main_arg0)⟩,
        ⟨S12x2x2560, extractStridedSlice S12x2x2560 ![0, 0, 0] (m ((c.tc : Thread nD τ).loc main_arg0)) slices_S12x3202x2560_S12x2x2560_0_0_0⟩]
        concatenates_S12x3202x2560_S12x2x2560_S12x3204x2560_d1 := by
  show StableHlo.after (List.flatten [hostOps0]) (fun b => m (c, b)) (Proc.devRef .tc main_v1) = _
  simp only [List.flatten_cons, List.flatten_nil, List.append_nil]
  after_results

theorem v3_eq (c : Dev nD) : V m c main_v3
    = shapeCast S5120x2560 (transpose S8x4x160x2560 [0, 2, 3, 1] (m ((c.tc : Thread nD τ).loc main_arg2))
        transposes_S8x2560x4x160_S8x4x160x2560_0_2_3_1) shapeCasts_S8x4x160x2560_S5120x2560 := by
  show StableHlo.after (List.flatten [hostOps0]) (fun b => m (c, b)) (Proc.devRef .tc main_v3) = _
  simp only [List.flatten_cons, List.flatten_nil, List.append_nil]
  after_results
  rfl

theorem v5_eq (c : Dev nD) : V m c main_v5
    = shapeCast S5120x2560 (transpose S8x4x160x2560 [0, 2, 3, 1] (m ((c.tc : Thread nD τ).loc main_arg4))
        transposes_S8x2560x4x160_S8x4x160x2560_0_2_3_1) shapeCasts_S8x4x160x2560_S5120x2560 := by
  show StableHlo.after (List.flatten [hostOps0]) (fun b => m (c, b)) (Proc.devRef .tc main_v5) = _
  simp only [List.flatten_cons, List.flatten_nil, List.append_nil]
  after_results
  rfl

theorem rows_apply (x : Vec Ideal S12x3202x2560 .fp8e4m3) (b : Fin 12) (j : Fin 3202) (e : Fin 2560) (hj : j.val < 3204) :
    concatenate S12x3204x2560 1 [⟨S12x3202x2560, x⟩,
        ⟨S12x2x2560, extractStridedSlice S12x2x2560 ![0, 0, 0] x slices_S12x3202x2560_S12x2x2560_0_0_0⟩]
        concatenates_S12x3202x2560_S12x2x2560_S12x3204x2560_d1 (ix3 b ⟨j.val, hj⟩ e) = x (ix3 b j e) := by
  pointwise

theorem weights_apply (w : Vec Ideal S8x2560x4x160 .fp8e4m3) (l : Fin 8) (h : Fin 4) (d : Fin 160) (e : Fin 2560)
    (hb : 640 * l.val + (160 * h.val + d.val) < 5120) :
    shapeCast S5120x2560 (transpose S8x4x160x2560 [0, 2, 3, 1] w
        transposes_S8x2560x4x160_S8x4x160x2560_0_2_3_1) shapeCasts_S8x4x160x2560_S5120x2560
        (ix2 ⟨640 * l.val + (160 * h.val + d.val), hb⟩ e) = w (ix4 l e h d) := by
  pointwise

theorem fcol_args (x : Vec Ideal S12x3202x2560 .fp8e4m3) (xs : Vec Ideal S12x3202 .f32) (w : Vec Ideal S8x2560x4x160 .fp8e4m3)
    (s : Vec Ideal S8x4x160 .f32) (l : Fin 8) (h : Fin 4) (b : Fin 12) (j : Fin 3202) (d : Fin 160) :
    fcol (shapeCast S5120x2560 (transpose S8x4x160x2560 [0, 2, 3, 1] w transposes_S8x2560x4x160_S8x4x160x2560_0_2_3_1)
        shapeCasts_S8x4x160x2560_S5120x2560)
      (concatenate S12x3204x2560 1 [⟨S12x3202x2560, x⟩,
        ⟨S12x2x2560, extractStridedSlice S12x2x2560 ![0, 0, 0] x slices_S12x3202x2560_S12x2x2560_0_0_0⟩]
        concatenates_S12x3202x2560_S12x2x2560_S12x3204x2560_d1) xs s l h b j d = Spec.col x xs w s l h b j d := by
  unfold fcol Spec.col
  refine congrArg (· * _ * _) (Finset.sum_congr rfl fun e _ => ?_)
  rw [rows_apply, weights_apply, mul_comm]

theorem fcol_k (c : Dev nD) (l : Fin 8) (h : Fin 4) (b : Fin 12) (j : Fin 3202) (d : Fin 160) :
    fcol (V m c main_v3) (V m c main_v1) (V m c main_arg1) (V m c main_arg3) l h b j d
      = Spec.col (m ((c.tc : Thread nD τ).loc main_arg0)) (m ((c.tc : Thread nD τ).loc main_arg1)) (m ((c.tc : Thread nD τ).loc main_arg2)) (m ((c.tc : Thread nD τ).loc main_arg3)) l h b j d := by
  rw [v1_eq, v3_eq, V_main_arg1, V_main_arg3]
  exact fcol_args _ _ _ _ l h b j d

theorem fcol_v (c : Dev nD) (l : Fin 8) (h : Fin 4) (b : Fin 12) (j : Fin 3202) (d : Fin 160) :
    fcol (V m c main_v5) (V m c main_v1) (V m c main_arg1) (V m c main_arg5) l h b j d
      = Spec.col (m ((c.tc : Thread nD τ).loc main_arg0)) (m ((c.tc : Thread nD τ).loc main_arg1)) (m ((c.tc : Thread nD τ).loc main_arg4)) (m ((c.tc : Thread nD τ).loc main_arg5)) l h b j d := by
  rw [v1_eq, v5_eq, V_main_arg1, V_main_arg5]
  exact fcol_args _ _ _ _ l h b j d

theorem fcolN_k (c : Dev nD) (l : Fin 8) (h : Fin 4) (b : Fin 12) (j : Fin 3202) :
    fcolN (V m c main_v3) (V m c main_v1) (V m c main_arg1) (V m c main_arg3) (V m c main_arg6) l h b j
      = Spec.colN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) l h b j := by
  unfold fcolN Spec.colN
  rw [V_main_arg6, show fcol (V m c main_v3) (V m c main_v1) (V m c main_arg1) (V m c main_arg3) l h b j = _ from funext (fcol_k m c l h b j)]
  rfl

theorem codes_at (f : Vec Ideal S8x12x4x160x3202 .fp8e4m3) (v : Fin 8 → Fin 4 → Fin 12 → Fin 3202 → Fin 160 → EReal)
    (hf : ∀ l b h d j, f (ix5 l b h d j) = Spec.code (v l h b j) d) :
    (transpose S8x12x3202x4x160 [0, 1, 4, 2, 3] f transposes_S8x12x4x160x3202_S8x12x3202x4x160_0_1_4_2_3) = Spec.codes v := by
  funext y
  rw [show y = ix5 (y 0) (y 1) (y 2) (y 3) (y 4) from (ix5_eta y).symm]
  unfold Spec.codes
  pointwise
  exact hf _ _ _ _ _

theorem scales_at (f : Vec Ideal S8x12x4x3202 .f32) (v : Fin 8 → Fin 4 → Fin 12 → Fin 3202 → Fin 160 → EReal)
    (hf : ∀ l b h j, f (ix4 l b h j) = Spec.scale (v l h b j)) :
    (transpose S8x12x3202x4 [0, 1, 3, 2] f transposes_S8x12x4x3202_S8x12x3202x4_0_1_3_2) = Spec.scales v := by
  funext y
  rw [show y = ix4 (y 0) (y 1) (y 2) (y 3) from (ix4_eta y).symm]
  unfold Spec.scales
  pointwise
  exact hf _ _ _ _

set_option backward.isDefEq.respectTransparency.types false in
theorem result7 (c : Dev nD) : Pipeline.afterTail₀ cfgs (dats m) 0 (V0 m) [hostOps1] c main_v7
    = Spec.codes (Spec.colN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))) := by
  unfold Pipeline.afterTail₀
  simp only [List.flatten_cons, List.flatten_nil, List.append_nil]
  after_results
  exact (congrArg (fun a : Vec Ideal S8x12x4x160x3202 .fp8e4m3 => transpose S8x12x3202x4x160 [0, 1, 4, 2, 3] a transposes_S8x12x4x160x3202_S8x12x3202x4x160_0_1_4_2_3)
    ((Pipeline.withArrays_arr spec0 winFacts0.arr_inj c (V0 m c) (fun w => (dats m 0 c).arrAt w cfg0.N) 7).trans (arr_7 m c))).trans
    (codes_at (final7 m c) (Spec.colN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))) fun l b h d j => congrArg (Spec.code · d) (fcolN_k m c l h b j))

set_option backward.isDefEq.respectTransparency.types false in
theorem result8 (c : Dev nD) : Pipeline.afterTail₀ cfgs (dats m) 0 (V0 m) [hostOps1] c main_v8
    = Spec.scales (Spec.colN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))) := by
  unfold Pipeline.afterTail₀
  simp only [List.flatten_cons, List.flatten_nil, List.append_nil]
  after_results
  exact (congrArg (fun a : Vec Ideal S8x12x4x3202 .f32 => transpose S8x12x3202x4 [0, 1, 3, 2] a transposes_S8x12x4x3202_S8x12x3202x4_0_1_3_2)
    ((Pipeline.withArrays_arr spec0 winFacts0.arr_inj c (V0 m c) (fun w => (dats m 0 c).arrAt w cfg0.N) 8).trans (arr_8 m c))).trans
    (scales_at (final8 m c) (Spec.colN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))) fun l b h j => congrArg Spec.scale (fcolN_k m c l h b j))

set_option backward.isDefEq.respectTransparency.types false in
theorem result9 (c : Dev nD) : Pipeline.afterTail₀ cfgs (dats m) 0 (V0 m) [hostOps1] c main_v9
    = Spec.codes (Spec.col (m ((c.tc : Thread nD τ).loc main_arg0)) (m ((c.tc : Thread nD τ).loc main_arg1)) (m ((c.tc : Thread nD τ).loc main_arg4)) (m ((c.tc : Thread nD τ).loc main_arg5))) := by
  unfold Pipeline.afterTail₀
  simp only [List.flatten_cons, List.flatten_nil, List.append_nil]
  after_results
  exact (congrArg (fun a : Vec Ideal S8x12x4x160x3202 .fp8e4m3 => transpose S8x12x3202x4x160 [0, 1, 4, 2, 3] a transposes_S8x12x4x160x3202_S8x12x3202x4x160_0_1_4_2_3)
    ((Pipeline.withArrays_arr spec0 winFacts0.arr_inj c (V0 m c) (fun w => (dats m 0 c).arrAt w cfg0.N) 9).trans (arr_9 m c))).trans
    (codes_at (final9 m c) (Spec.col (m ((c.tc : Thread nD τ).loc main_arg0)) (m ((c.tc : Thread nD τ).loc main_arg1)) (m ((c.tc : Thread nD τ).loc main_arg4)) (m ((c.tc : Thread nD τ).loc main_arg5))) fun l b h d j => congrArg (Spec.code · d) (funext (fcol_v m c l h b j)))

set_option backward.isDefEq.respectTransparency.types false in
theorem result10 (c : Dev nD) : Pipeline.afterTail₀ cfgs (dats m) 0 (V0 m) [hostOps1] c main_v10
    = Spec.scales (Spec.col (m ((c.tc : Thread nD τ).loc main_arg0)) (m ((c.tc : Thread nD τ).loc main_arg1)) (m ((c.tc : Thread nD τ).loc main_arg4)) (m ((c.tc : Thread nD τ).loc main_arg5))) := by
  unfold Pipeline.afterTail₀
  simp only [List.flatten_cons, List.flatten_nil, List.append_nil]
  after_results
  exact (congrArg (fun a : Vec Ideal S8x12x4x3202 .f32 => transpose S8x12x3202x4 [0, 1, 3, 2] a transposes_S8x12x4x3202_S8x12x3202x4_0_1_3_2)
    ((Pipeline.withArrays_arr spec0 winFacts0.arr_inj c (V0 m c) (fun w => (dats m 0 c).arrAt w cfg0.N) 10).trans (arr_10 m c))).trans
    (scales_at (final10 m c) (Spec.col (m ((c.tc : Thread nD τ).loc main_arg0)) (m ((c.tc : Thread nD τ).loc main_arg1)) (m ((c.tc : Thread nD τ).loc main_arg4)) (m ((c.tc : Thread nD τ).loc main_arg5))) fun l b h j => congrArg Spec.scale (funext (fcol_v m c l h b j)))

set_option backward.isDefEq.respectTransparency.types false in
/-- The run with its results named: the four arrays are the codes and scales of the projections' columns, and the
arguments are as launched. -/
theorem results : θ_run defs (onTc (τ := τ) (main (F := Ideal))) ⟨m, fun _ => 0, ρ⟩ (fun r => ∀ c : Dev nD,
      r.2.mem ((c.tc : Thread nD τ).loc main_v7) = Spec.codes (Spec.colN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)))
      ∧ r.2.mem ((c.tc : Thread nD τ).loc main_v8) = Spec.scales (Spec.colN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)))
      ∧ r.2.mem ((c.tc : Thread nD τ).loc main_v9) = Spec.codes (Spec.col (m ((c.tc : Thread nD τ).loc main_arg0)) (m ((c.tc : Thread nD τ).loc main_arg1)) (m ((c.tc : Thread nD τ).loc main_arg4)) (m ((c.tc : Thread nD τ).loc main_arg5)))
      ∧ r.2.mem ((c.tc : Thread nD τ).loc main_v10) = Spec.scales (Spec.col (m ((c.tc : Thread nD τ).loc main_arg0)) (m ((c.tc : Thread nD τ).loc main_arg1)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine θ_run_mono (θ_run_and (run m ρ) (Own.frame m ρ)) fun r h c => ?_
  exact ⟨((h.1 c).2 main_v7 (Pipeline.mem_restRefs_of main_v7 (by decide) (by decide))).trans (result7 m c),
    ((h.1 c).2 main_v8 (Pipeline.mem_restRefs_of main_v8 (by decide) (by decide))).trans (result8 m c),
    ((h.1 c).2 main_v9 (Pipeline.mem_restRefs_of main_v9 (by decide) (by decide))).trans (result9 m c),
    ((h.1 c).2 main_v10 (Pipeline.mem_restRefs_of main_v10 (by decide) (by decide))).trans (result10 m c),
    h.2.1 c⟩

end Cert.KernelIdeal.Exact

end
-- ==== Proof.RIPoint.lean ====
module

public import proofs.«01_k».proof.Proof.Gen.ReferenceIdeal.Skeleton
public import proofs.«01_k».proof.Proof.Gen.ReferenceIdeal.Frame
public import proofs.«01_k».proof.Proof.Math
public import Idealize.ShloMosaic.Lib.Pointwise.Tactic
public import Idealize.ShloMosaic.Lib.Pointwise.Reduce
public import Idealize.ShloMosaic.Lib.Pointwise.Reshape
public import Idealize.ShloMosaic.Lib.Pointwise.Contract
public import Idealize.ShloMosaic.Lib.Pipeline.Value
public import Idealize.ShloMosaic.Lib.Pointwise.IndexBridge

@[expose] public section

set_option maxRecDepth 16384

noncomputable section

namespace Cert.ReferenceIdeal.Exact

open Cert.ReferenceIdeal Cert.ReferenceIdeal.Gen
open Idealize.ShloMosaic Idealize.ShloMosaic.TcCoe Idealize.ShloMosaic.Pipeline

/-! # The reference's values at an index, over the extended reals -/

/-! ## The operations at an index -/

theorem exp2_at {s : Shape} (E : FVec Ideal s .f32) (i : s.Idx) : exp2 E i = Ideal.exp2 (E i) :=
  congrFun (f := exp2 E) (g := fun i => Ideal.exp2 (E i)) rfl i

theorem log_at {s : Shape} (E : FVec Ideal s .f32) (i : s.Idx) : log E i = Ideal.log (E i) :=
  congrFun (f := log E) (g := fun i => Ideal.log (E i)) rfl i

theorem floor_at {s : Shape} (E : FVec Ideal s .f32) (i : s.Idx) : floor E i = Ideal.liftRound Int.floor (E i) :=
  congrFun (f := floor E) (g := fun i => Ideal.liftRound Int.floor (E i)) rfl i

theorem absf_at {s : Shape} (E : FVec Ideal s .f32) (i : s.Idx) : absf E i = max (E i) (-(E i)) :=
  congrFun (f := absf E) (g := fun i => max (E i) (-(E i))) rfl i

theorem cmpf_at {s : Shape} (E G : FVec Ideal s .f32) (i : s.Idx) :
    cmpf .oeq E G i = BitVec.ofBool (decide (E i = G i)) :=
  congrFun (f := cmpf .oeq E G) (g := fun i => BitVec.ofBool (decide (E i = G i))) rfl i

/-- The largest magnitude of each column. -/
theorem amax_at (y : FVec Ideal S12x3202x8x4x160 .f32) (l : Fin 8) (h : Fin 4) (b : Fin 12) (j : Fin 3202) :
    multiReduction .maximumf [4] S12x3202x8x4 (absf y) 0xFF800000#32 reduces_S12x3202x8x4x160_S12x3202x8x4 (.inl rfl) rfl
      (ix4 b j l h) = Spec.amax (fun d => y (ix5 b j l h d)) := by
  unfold Spec.amax
  rw [show absf y = fun i => max (y i) (-(y i)) from funext (absf_at y)]
  pointwise

/-- The largest magnitudes with the reduced axis kept. -/
theorem amaxKeep_at (y : FVec Ideal S12x3202x8x4x160 .f32) (l : Fin 8) (h : Fin 4) (b : Fin 12) (j : Fin 3202) :
    shapeCast S12x3202x8x4x1 (multiReduction .maximumf [4] S12x3202x8x4 (absf y) 0xFF800000#32
        reduces_S12x3202x8x4x160_S12x3202x8x4 (.inl rfl) rfl : FVec Ideal S12x3202x8x4 .f32)
      shapeCasts_S12x3202x8x4_S12x3202x8x4x1 (ix5 b j l h (0 : Fin 1)) = Spec.amax (fun d => y (ix5 b j l h d)) := by
  rw [← amax_at]
  generalize multiReduction .maximumf [4] S12x3202x8x4 (absf y) 0xFF800000#32
    reduces_S12x3202x8x4x160_S12x3202x8x4 (.inl rfl) rfl = M
  pointwise

/-- The exponents of an array of magnitudes, elementwise. -/
def exArr {s : Shape} (a : FVec Ideal s .f32) : FVec Ideal s .f32 :=
  select
    (ori (cmpf .oeq a (broadcast s (Scalar.ofBits .f32 0x00000000#32)))
      (cmpf .oeq (mulf a (broadcast s (Scalar.ofBits .f32 0x3B124925#32))) (broadcast s (Scalar.ofBits .f32 0x7F800000#32))))
    (broadcast s (Scalar.ofBits .f32 0x00000000#32))
    (minimumf (broadcast s (Scalar.ofBits .f32 0x42FC0000#32))
      (maximumf (broadcast s (Scalar.ofBits .f32 0xC2FC0000#32))
        (addf (floor (divf (log (mulf a (broadcast s (Scalar.ofBits .f32 0x3B124925#32))))
          (log (broadcast s (Scalar.ofBits .f32 0x40000000#32))))) (broadcast s (Scalar.ofBits .f32 0x3F800000#32)))))

theorem exArr_at {s : Shape} (a : FVec Ideal s .f32) (i : s.Idx) : exArr a i = Spec.ex (a i) := by
  unfold exArr Spec.ex Spec.inv448
  simp only [pointwise, exp2_at, log_at, floor_at, absf_at, cmpf_at]
  rw [Spec.ofBits_top]
  unfold Scalar.select IntOp.ori
  by_cases h : a i = 0 <;> by_cases k : a i * Ideal.ofBits .f32 0x3B124925#32 = ⊤ <;> simp [h, k]

/-- Codes of an array, from its exponents. -/
def codeArr (y : FVec Ideal S12x3202x8x4x160 .f32) (E : FVec Ideal S12x3202x8x4x1 .f32) : FVec Ideal S12x3202x8x4x160 .fp8e4m3 :=
  truncf .fp8e4m3 (minimumf (broadcast S12x3202x8x4x160 (Scalar.ofBits .f32 0x43E00000#32))
    (maximumf (broadcast S12x3202x8x4x160 (Scalar.ofBits .f32 0xC3E00000#32))
      (mulf y (broadcastTo S12x3202x8x4x160 (exp2 (subf (broadcast S12x3202x8x4x1 (Scalar.ofBits .f32 0x00000000#32)) E))
        broadcasts_S12x3202x8x4x1_S12x3202x8x4x160)))) bitsLt_fp8e4m3_f32

set_option maxHeartbeats 40000 in
theorem codeArr_at (y : FVec Ideal S12x3202x8x4x160 .f32) (E : FVec Ideal S12x3202x8x4x1 .f32)
    (l : Fin 8) (h : Fin 4) (b : Fin 12) (j : Fin 3202) (d : Fin 160)
    (hE : E (ix5 b j l h (0 : Fin 1)) = Spec.ex (Spec.amax fun d => y (ix5 b j l h d))) :
    codeArr y E (ix5 b j l h d) = Spec.code (fun d => y (ix5 b j l h d)) d := by
  unfold codeArr Spec.code Spec.clip
  rw [← hE]
  clear hE
  simp only [pointwise, exp2_at]
  pointwise

/-- One column of a projection, scaled: the 160 values of layer `l`, head `h` and token `(b, j)`. -/
def rcol (x : Vec Ideal S12x3202x2560 .fp8e4m3) (xs : Vec Ideal S12x3202 .f32) (W : Vec Ideal S2560x5120 .fp8e4m3)
    (s : Vec Ideal S8x4x160 .f32) (l : Fin 8) (h : Fin 4) (b : Fin 12) (j : Fin 3202) (d : Fin 160) : EReal :=
  (∑ e : Fin 2560, x (ix3 b j e) * W (ix2 e ⟨640 * l.val + (160 * h.val + d.val), by omega⟩)) * xs (ix2 b j) * s (ix3 l h d)

/-- The norm's weights of one layer. -/
def gcol (g : Vec Ideal S8x160 .f32) (l : Fin 8) (d : Fin 160) : EReal := g (ix2 l d)

/-- One column of the first projection, normalised. -/
def rcolN (x : Vec Ideal S12x3202x2560 .fp8e4m3) (xs : Vec Ideal S12x3202 .f32) (W : Vec Ideal S2560x5120 .fp8e4m3)
    (s : Vec Ideal S8x4x160 .f32) (g : Vec Ideal S8x160 .f32) (l : Fin 8) (h : Fin 4) (b : Fin 12) (j : Fin 3202) :
    Fin 160 → EReal :=
  Spec.normCol (rcol x xs W s l h b j) (gcol g l)

theorem pay10_apply (x : Vec Ideal S12x3202x2560 .fp8e4m3) (xs : Vec Ideal S12x3202 .f32) (W : Vec Ideal S2560x5120 .fp8e4m3)
    (s : Vec Ideal S8x4x160 .f32) (l : Fin 8) (h : Fin 4) (b : Fin 12) (j : Fin 3202) (d : Fin 160) :
    k0_pay10 (k0_pay8 x xs W) (k0_pay9 s) (ix5 b j l h d) = rcol x xs W s l h b j d := by
  have e : ∀ p, (⟨l.val * 640 + h.val * 160 + d.val, p⟩ : Fin 5120) = ⟨640 * l.val + (160 * h.val + d.val), by omega⟩ :=
    fun p => Fin.ext (by dsimp only; omega)
  unfold k0_pay10 k0_pay8 k0_pay9 rcol
  pointwise
  simp only [e]

/-- The first projection's product, scaled, before the norm. -/
theorem pay1_apply (x : Vec Ideal S12x3202x2560 .fp8e4m3) (xs : Vec Ideal S12x3202 .f32) (W : Vec Ideal S2560x5120 .fp8e4m3)
    (s : Vec Ideal S8x4x160 .f32) (g : Vec Ideal S8x160 .f32) (l : Fin 8) (h : Fin 4) (b : Fin 12) (j : Fin 3202)
    (d : Fin 160) :
    k0_pay1 x xs W s g (ix5 b j l h d) = rcolN x xs W s g l h b j d := by
  have e : ∀ (d : Fin 160) p, (⟨l.val * 640 + h.val * 160 + d.val, p⟩ : Fin 5120)
      = ⟨640 * l.val + (160 * h.val + d.val), by omega⟩ :=
    fun d p => Fin.ext (by dsimp only; omega)
  unfold k0_pay1 rcolN Spec.normCol rcol gcol
  pointwise
  simp only [e]

set_option maxHeartbeats 40000 in
theorem pay5_amax (x : Vec Ideal S12x3202x2560 .fp8e4m3) (xs : Vec Ideal S12x3202 .f32) (W : Vec Ideal S2560x5120 .fp8e4m3)
    (s : Vec Ideal S8x4x160 .f32) (g : Vec Ideal S8x160 .f32) (l : Fin 8) (h : Fin 4) (b : Fin 12) (j : Fin 3202) :
    k0_pay5 (k0_pay2 x xs W s g) (k0_pay3 x xs W s g) (k0_pay4 x xs W s g) (ix5 b j l h (0 : Fin 1)) = Spec.ex (Spec.amax fun d => k0_pay1 x xs W s g (ix5 b j l h d)) :=
  (exArr_at (shapeCast S12x3202x8x4x1 (multiReduction .maximumf [4] S12x3202x8x4 (absf (k0_pay1 x xs W s g)) 0xFF800000#32
        reduces_S12x3202x8x4x160_S12x3202x8x4 (.inl rfl) rfl : FVec Ideal S12x3202x8x4 .f32)
      shapeCasts_S12x3202x8x4_S12x3202x8x4x1) (ix5 b j l h (0 : Fin 1))).trans (congrArg Spec.ex (amaxKeep_at (k0_pay1 x xs W s g) l h b j))

set_option maxHeartbeats 40000 in
theorem pay6_apply (x : Vec Ideal S12x3202x2560 .fp8e4m3) (xs : Vec Ideal S12x3202 .f32) (W : Vec Ideal S2560x5120 .fp8e4m3)
    (s : Vec Ideal S8x4x160 .f32) (g : Vec Ideal S8x160 .f32) (l : Fin 8) (h : Fin 4) (b : Fin 12) (j : Fin 3202)
    (d : Fin 160) :
    k0_pay6 (k0_pay1 x xs W s g) (k0_pay2 x xs W s g) (k0_pay3 x xs W s g) (k0_pay4 x xs W s g) (ix5 b j l h d) = Spec.code (rcolN x xs W s g l h b j) d :=
  (codeArr_at (k0_pay1 x xs W s g) (k0_pay5 (k0_pay2 x xs W s g) (k0_pay3 x xs W s g) (k0_pay4 x xs W s g)) l h b j d (pay5_amax x xs W s g l h b j)).trans
    (congrArg (Spec.code · d) (funext fun d => pay1_apply x xs W s g l h b j d))

set_option maxHeartbeats 40000 in
theorem pay7_apply (x : Vec Ideal S12x3202x2560 .fp8e4m3) (xs : Vec Ideal S12x3202 .f32) (W : Vec Ideal S2560x5120 .fp8e4m3)
    (s : Vec Ideal S8x4x160 .f32) (g : Vec Ideal S8x160 .f32) (l : Fin 8) (h : Fin 4) (b : Fin 12) (j : Fin 3202) :
    k0_pay7 (k0_pay2 x xs W s g) (k0_pay3 x xs W s g) (k0_pay4 x xs W s g) (ix5 b j l h (0 : Fin 1)) = Spec.scale (rcolN x xs W s g l h b j) :=
  (exp2_at (k0_pay5 (k0_pay2 x xs W s g) (k0_pay3 x xs W s g) (k0_pay4 x xs W s g)) (ix5 b j l h (0 : Fin 1))).trans (congrArg Ideal.exp2 ((pay5_amax x xs W s g l h b j).trans
    (congrArg (fun v => Spec.ex (Spec.amax v)) (funext fun d => pay1_apply x xs W s g l h b j d))))

set_option maxHeartbeats 40000 in
theorem pay11_amax (x : Vec Ideal S12x3202x2560 .fp8e4m3) (xs : Vec Ideal S12x3202 .f32) (W : Vec Ideal S2560x5120 .fp8e4m3)
    (s : Vec Ideal S8x4x160 .f32) (l : Fin 8) (h : Fin 4) (b : Fin 12) (j : Fin 3202) :
    k0_pay11 (k0_pay8 x xs W) (k0_pay9 s) (ix5 b j l h (0 : Fin 1)) = Spec.ex (Spec.amax fun d => k0_pay10 (k0_pay8 x xs W) (k0_pay9 s) (ix5 b j l h d)) :=
  (exArr_at (shapeCast S12x3202x8x4x1 (multiReduction .maximumf [4] S12x3202x8x4 (absf (k0_pay10 (k0_pay8 x xs W) (k0_pay9 s))) 0xFF800000#32
        reduces_S12x3202x8x4x160_S12x3202x8x4 (.inl rfl) rfl : FVec Ideal S12x3202x8x4 .f32)
      shapeCasts_S12x3202x8x4_S12x3202x8x4x1) (ix5 b j l h (0 : Fin 1))).trans (congrArg Spec.ex (amaxKeep_at (k0_pay10 (k0_pay8 x xs W) (k0_pay9 s)) l h b j))

set_option maxHeartbeats 40000 in
theorem pay12_apply (x : Vec Ideal S12x3202x2560 .fp8e4m3) (xs : Vec Ideal S12x3202 .f32) (W : Vec Ideal S2560x5120 .fp8e4m3)
    (s : Vec Ideal S8x4x160 .f32) (l : Fin 8) (h : Fin 4) (b : Fin 12) (j : Fin 3202)
    (d : Fin 160) :
    k0_pay12 (k0_pay8 x xs W) (k0_pay9 s) (ix5 b j l h d) = Spec.code (rcol x xs W s l h b j) d :=
  (codeArr_at (k0_pay10 (k0_pay8 x xs W) (k0_pay9 s)) (k0_pay11 (k0_pay8 x xs W) (k0_pay9 s)) l h b j d (pay11_amax x xs W s l h b j)).trans
    (congrArg (Spec.code · d) (funext fun d => pay10_apply x xs W s l h b j d))

set_option maxHeartbeats 40000 in
theorem pay13_apply (x : Vec Ideal S12x3202x2560 .fp8e4m3) (xs : Vec Ideal S12x3202 .f32) (W : Vec Ideal S2560x5120 .fp8e4m3)
    (s : Vec Ideal S8x4x160 .f32) (l : Fin 8) (h : Fin 4) (b : Fin 12) (j : Fin 3202) :
    k0_pay13 (k0_pay8 x xs W) (k0_pay9 s) (ix5 b j l h (0 : Fin 1)) = Spec.scale (rcol x xs W s l h b j) :=
  (exp2_at (k0_pay11 (k0_pay8 x xs W) (k0_pay9 s)) (ix5 b j l h (0 : Fin 1))).trans (congrArg Ideal.exp2 ((pay11_amax x xs W s l h b j).trans
    (congrArg (fun v => Spec.ex (Spec.amax v)) (funext fun d => pay10_apply x xs W s l h b j d))))

end Cert.ReferenceIdeal.Exact

end
-- ==== Proof.RIResult.lean ====
module

public import proofs.«01_k».proof.Proof.RIPoint
public import proofs.«01_k».proof.Proof.Result
public import Idealize.ShloMosaic.Lib.Claim
public import Idealize.ShloMosaic.Lib.Pipeline.ValueKit.Geometry
public import Idealize.ShloMosaic.Lib.Pipeline.ValueKit.Acc
public import Idealize.ShloMosaic.Lib.Pointwise.Select

@[expose] public section

set_option maxRecDepth 16384

noncomputable section

namespace Cert.ReferenceIdeal.Exact

open Cert.ReferenceIdeal Cert.ReferenceIdeal.Gen
open Idealize.ShloMosaic Idealize.ShloMosaic.TcCoe Idealize.ShloMosaic.Pipeline Idealize.SL.Sem Idealize.ShloMosaic.Tactic

/-! # The reference's results from its arguments

The reference is one program over whole arrays: every window is its whole array, at the only grid point. -/

variable (m : (ℓ : Loc nD τ sig) → Buf (Elt Ideal) ℓ) (ρ : Dev nD → PrngReg)

theorem index_0 : ∀ t : Fin cfg0.N, win0_0.index t = ![0, 0, 0] := by decide +kernel
theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![0, 0, 0] := by decide +kernel
theorem index_4 : ∀ t : Fin cfg0.N, win0_4.index t = ![0, 0] := by decide +kernel
theorem index_5 : ∀ t : Fin cfg0.N, win0_5.index t = ![0, 0, 0] := by decide +kernel
theorem index_6 : ∀ t : Fin cfg0.N, win0_6.index t = ![0, 0] := by decide +kernel
theorem index_7 : ∀ t : Fin cfg0.N, win0_7.index t = ![0, 0, 0, 0, 0] := by decide +kernel
theorem index_8 : ∀ t : Fin cfg0.N, win0_8.index t = ![0, 0, 0, 0, 0] := by decide +kernel
theorem index_9 : ∀ t : Fin cfg0.N, win0_9.index t = ![0, 0, 0, 0, 0] := by decide +kernel
theorem index_10 : ∀ t : Fin cfg0.N, win0_10.index t = ![0, 0, 0, 0, 0] := by decide +kernel

theorem iblk_0 (c : Dev nD) (t : Fin cfg0.N) : (iblk m c 0 t : Vec Ideal S12x3202x2560 .fp8e4m3) = V m c main_arg0 := by
  funext y; blk_ext [iblk, V, index_0]
theorem iblk_1 (c : Dev nD) (t : Fin cfg0.N) : (iblk m c 1 t : Vec Ideal S12x3202 .f32) = V m c main_arg1 := by
  funext y; blk_ext [iblk, V, index_1]
theorem iblk_2 (c : Dev nD) (t : Fin cfg0.N) : (iblk m c 2 t : Vec Ideal S2560x5120 .fp8e4m3) = V m c main_v1 := by
  funext y; blk_ext [iblk, V, index_2]
theorem iblk_3 (c : Dev nD) (t : Fin cfg0.N) : (iblk m c 3 t : Vec Ideal S8x4x160 .f32) = V m c main_arg3 := by
  funext y; blk_ext [iblk, V, index_3]
theorem iblk_4 (c : Dev nD) (t : Fin cfg0.N) : (iblk m c 4 t : Vec Ideal S2560x5120 .fp8e4m3) = V m c main_v3 := by
  funext y; blk_ext [iblk, V, index_4]
theorem iblk_5 (c : Dev nD) (t : Fin cfg0.N) : (iblk m c 5 t : Vec Ideal S8x4x160 .f32) = V m c main_arg5 := by
  funext y; blk_ext [iblk, V, index_5]
theorem iblk_6 (c : Dev nD) (t : Fin cfg0.N) : (iblk m c 6 t : Vec Ideal S8x160 .f32) = V m c main_arg6 := by
  funext y; blk_ext [iblk, V, index_6]

theorem emb_7 (t : Fin cfg0.N) (y : S12x3202x8x4x160.Idx) : ((cfg0.win 7).blk t).view.emb y = y := by
  blk_ext [index_7]
theorem emb_8 (t : Fin cfg0.N) (y : S12x3202x8x4x1.Idx) : ((cfg0.win 8).blk t).view.emb y = y := by
  blk_ext [index_8]
theorem emb_9 (t : Fin cfg0.N) (y : S12x3202x8x4x160.Idx) : ((cfg0.win 9).blk t).view.emb y = y := by
  blk_ext [index_9]
theorem emb_10 (t : Fin cfg0.N) (y : S12x3202x8x4x1.Idx) : ((cfg0.win 10).blk t).view.emb y = y := by
  blk_ext [index_10]

theorem covers_7 : (cfg0.win 7).Covers := by decide +kernel
theorem covers_8 : (cfg0.win 8).Covers := by decide +kernel
theorem covers_9 : (cfg0.win 9).Covers := by decide +kernel
theorem covers_10 : (cfg0.win 10).Covers := by decide +kernel

/-! ## The body's arrays -/

theorem out7_eq (x0 : Vec Ideal S12x3202x2560 .fp8e4m3) (x1 : Vec Ideal S12x3202 .f32) (x2 : Vec Ideal S2560x5120 .fp8e4m3) (x3 : Vec Ideal S8x4x160 .f32) (x4 : Vec Ideal S2560x5120 .fp8e4m3) (x5 : Vec Ideal S8x4x160 .f32) (x6 : Vec Ideal S8x160 .f32) :
    out0_7 x0 x1 x2 x3 x4 x5 x6 = k0_pay6 (k0_pay1 x0 x1 x2 x3 x6) (k0_pay2 x0 x1 x2 x3 x6) (k0_pay3 x0 x1 x2 x3 x6) (k0_pay4 x0 x1 x2 x3 x6) := by
  unfold_out out0_7; frame_out

theorem out8_eq (x0 : Vec Ideal S12x3202x2560 .fp8e4m3) (x1 : Vec Ideal S12x3202 .f32) (x2 : Vec Ideal S2560x5120 .fp8e4m3) (x3 : Vec Ideal S8x4x160 .f32) (x4 : Vec Ideal S2560x5120 .fp8e4m3) (x5 : Vec Ideal S8x4x160 .f32) (x6 : Vec Ideal S8x160 .f32) :
    out0_8 x0 x1 x2 x3 x4 x5 x6 = k0_pay7 (k0_pay2 x0 x1 x2 x3 x6) (k0_pay3 x0 x1 x2 x3 x6) (k0_pay4 x0 x1 x2 x3 x6) := by
  unfold_out out0_8; frame_out

theorem out9_eq (x0 : Vec Ideal S12x3202x2560 .fp8e4m3) (x1 : Vec Ideal S12x3202 .f32) (x2 : Vec Ideal S2560x5120 .fp8e4m3) (x3 : Vec Ideal S8x4x160 .f32) (x4 : Vec Ideal S2560x5120 .fp8e4m3) (x5 : Vec Ideal S8x4x160 .f32) (x6 : Vec Ideal S8x160 .f32) :
    out0_9 x0 x1 x2 x3 x4 x5 x6 = k0_pay12 (k0_pay8 x0 x1 x4) (k0_pay9 x5) := by
  unfold_out out0_9; frame_out

theorem out10_eq (x0 : Vec Ideal S12x3202x2560 .fp8e4m3) (x1 : Vec Ideal S12x3202 .f32) (x2 : Vec Ideal S2560x5120 .fp8e4m3) (x3 : Vec Ideal S8x4x160 .f32) (x4 : Vec Ideal S2560x5120 .fp8e4m3) (x5 : Vec Ideal S8x4x160 .f32) (x6 : Vec Ideal S8x160 .f32) :
    out0_10 x0 x1 x2 x3 x4 x5 x6 = k0_pay13 (k0_pay8 x0 x1 x4) (k0_pay9 x5) := by
  unfold_out out0_10; frame_out

theorem left_7 (c : Dev nD) (t : Fin cfg0.N) : (dats m 0 c).after 7 t
    = out0_7 (V m c main_arg0) (V m c main_arg1) (V m c main_v1) (V m c main_arg3) (V m c main_v3) (V m c main_arg5) (V m c main_arg6) :=
  (after0_7 m c t).trans (by rw [iblk_0, iblk_1, iblk_2, iblk_3, iblk_4, iblk_5, iblk_6])

theorem arr_7 (c : Dev nD) : (dats m 0 c).arrAt 7 cfg0.N
    = out0_7 (V m c main_arg0) (V m c main_arg1) (V m c main_v1) (V m c main_arg3) (V m c main_v3) (V m c main_arg5) (V m c main_arg6) := by
  generalize hG : out0_7 (V m c main_arg0) (V m c main_arg1) (V m c main_v1) (V m c main_arg3) (V m c main_v3) (V m c main_arg5) (V m c main_arg6) = G
  refine (dats m 0 c).arrAt_eq_of_covers 7 G covers_7 fun t hf y => ?_
  refine (congrFun ((left_7 m c t).trans hG) y).trans ?_
  exact (congrArg G (emb_7 t y)).symm

theorem left_8 (c : Dev nD) (t : Fin cfg0.N) : (dats m 0 c).after 8 t
    = out0_8 (V m c main_arg0) (V m c main_arg1) (V m c main_v1) (V m c main_arg3) (V m c main_v3) (V m c main_arg5) (V m c main_arg6) :=
  (after0_8 m c t).trans (by rw [iblk_0, iblk_1, iblk_2, iblk_3, iblk_4, iblk_5, iblk_6])

theorem arr_8 (c : Dev nD) : (dats m 0 c).arrAt 8 cfg0.N
    = out0_8 (V m c main_arg0) (V m c main_arg1) (V m c main_v1) (V m c main_arg3) (V m c main_v3) (V m c main_arg5) (V m c main_arg6) := by
  generalize hG : out0_8 (V m c main_arg0) (V m c main_arg1) (V m c main_v1) (V m c main_arg3) (V m c main_v3) (V m c main_arg5) (V m c main_arg6) = G
  refine (dats m 0 c).arrAt_eq_of_covers 8 G covers_8 fun t hf y => ?_
  refine (congrFun ((left_8 m c t).trans hG) y).trans ?_
  exact (congrArg G (emb_8 t y)).symm

theorem left_9 (c : Dev nD) (t : Fin cfg0.N) : (dats m 0 c).after 9 t
    = out0_9 (V m c main_arg0) (V m c main_arg1) (V m c main_v1) (V m c main_arg3) (V m c main_v3) (V m c main_arg5) (V m c main_arg6) :=
  (after0_9 m c t).trans (by rw [iblk_0, iblk_1, iblk_2, iblk_3, iblk_4, iblk_5, iblk_6])

theorem arr_9 (c : Dev nD) : (dats m 0 c).arrAt 9 cfg0.N
    = out0_9 (V m c main_arg0) (V m c main_arg1) (V m c main_v1) (V m c main_arg3) (V m c main_v3) (V m c main_arg5) (V m c main_arg6) := by
  generalize hG : out0_9 (V m c main_arg0) (V m c main_arg1) (V m c main_v1) (V m c main_arg3) (V m c main_v3) (V m c main_arg5) (V m c main_arg6) = G
  refine (dats m 0 c).arrAt_eq_of_covers 9 G covers_9 fun t hf y => ?_
  refine (congrFun ((left_9 m c t).trans hG) y).trans ?_
  exact (congrArg G (emb_9 t y)).symm

theorem left_10 (c : Dev nD) (t : Fin cfg0.N) : (dats m 0 c).after 10 t
    = out0_10 (V m c main_arg0) (V m c main_arg1) (V m c main_v1) (V m c main_arg3) (V m c main_v3) (V m c main_arg5) (V m c main_arg6) :=
  (after0_10 m c t).trans (by rw [iblk_0, iblk_1, iblk_2, iblk_3, iblk_4, iblk_5, iblk_6])

theorem arr_10 (c : Dev nD) : (dats m 0 c).arrAt 10 cfg0.N
    = out0_10 (V m c main_arg0) (V m c main_arg1) (V m c main_v1) (V m c main_arg3) (V m c main_v3) (V m c main_arg5) (V m c main_arg6) := by
  generalize hG : out0_10 (V m c main_arg0) (V m c main_arg1) (V m c main_v1) (V m c main_arg3) (V m c main_v3) (V m c main_arg5) (V m c main_arg6) = G
  refine (dats m 0 c).arrAt_eq_of_covers 10 G covers_10 fun t hf y => ?_
  refine (congrFun ((left_10 m c t).trans hG) y).trans ?_
  exact (congrArg G (emb_10 t y)).symm

/-! ## The weights and the columns -/

theorem v1_eq (c : Dev nD) : V m c main_v1
    = shapeCast S2560x5120 (transpose S2560x8x4x160 [1, 0, 2, 3] (m ((c.tc : Thread nD τ).loc main_arg2))
        transposes_S8x2560x4x160_S2560x8x4x160_1_0_2_3) shapeCasts_S2560x8x4x160_S2560x5120 := by
  show StableHlo.after (List.flatten [hostOps0]) (fun b => m (c, b)) (Proc.devRef .tc main_v1) = _
  simp only [List.flatten_cons, List.flatten_nil, List.append_nil]
  after_results
  rfl

theorem v3_eq (c : Dev nD) : V m c main_v3
    = shapeCast S2560x5120 (transpose S2560x8x4x160 [1, 0, 2, 3] (m ((c.tc : Thread nD τ).loc main_arg4))
        transposes_S8x2560x4x160_S2560x8x4x160_1_0_2_3) shapeCasts_S2560x8x4x160_S2560x5120 := by
  show StableHlo.after (List.flatten [hostOps0]) (fun b => m (c, b)) (Proc.devRef .tc main_v3) = _
  simp only [List.flatten_cons, List.flatten_nil, List.append_nil]
  after_results
  rfl

theorem weights_apply (w : Vec Ideal S8x2560x4x160 .fp8e4m3) (l : Fin 8) (h : Fin 4) (d : Fin 160) (e : Fin 2560)
    (hb : 640 * l.val + (160 * h.val + d.val) < 5120) :
    shapeCast S2560x5120 (transpose S2560x8x4x160 [1, 0, 2, 3] w
        transposes_S8x2560x4x160_S2560x8x4x160_1_0_2_3) shapeCasts_S2560x8x4x160_S2560x5120
        (ix2 e ⟨640 * l.val + (160 * h.val + d.val), hb⟩) = w (ix4 l e h d) := by
  pointwise

theorem rcol_args (x : Vec Ideal S12x3202x2560 .fp8e4m3) (xs : Vec Ideal S12x3202 .f32) (w : Vec Ideal S8x2560x4x160 .fp8e4m3)
    (s : Vec Ideal S8x4x160 .f32) (l : Fin 8) (h : Fin 4) (b : Fin 12) (j : Fin 3202) (d : Fin 160) :
    rcol x xs (shapeCast S2560x5120 (transpose S2560x8x4x160 [1, 0, 2, 3] w transposes_S8x2560x4x160_S2560x8x4x160_1_0_2_3)
        shapeCasts_S2560x8x4x160_S2560x5120) s l h b j d = Spec.col x xs w s l h b j d := by
  unfold rcol Spec.col
  refine congrArg (· * _ * _) (Finset.sum_congr rfl fun e _ => ?_)
  rw [weights_apply]

theorem rcol_k (c : Dev nD) (l : Fin 8) (h : Fin 4) (b : Fin 12) (j : Fin 3202) :
    rcol (V m c main_arg0) (V m c main_arg1) (V m c main_v1) (V m c main_arg3) l h b j
      = Spec.col (m ((c.tc : Thread nD τ).loc main_arg0)) (m ((c.tc : Thread nD τ).loc main_arg1)) (m ((c.tc : Thread nD τ).loc main_arg2)) (m ((c.tc : Thread nD τ).loc main_arg3)) l h b j := by
  rw [v1_eq, V_main_arg0, V_main_arg1, V_main_arg3]
  exact funext fun d => rcol_args _ _ _ _ l h b j d

theorem rcol_v (c : Dev nD) (l : Fin 8) (h : Fin 4) (b : Fin 12) (j : Fin 3202) :
    rcol (V m c main_arg0) (V m c main_arg1) (V m c main_v3) (V m c main_arg5) l h b j
      = Spec.col (m ((c.tc : Thread nD τ).loc main_arg0)) (m ((c.tc : Thread nD τ).loc main_arg1)) (m ((c.tc : Thread nD τ).loc main_arg4)) (m ((c.tc : Thread nD τ).loc main_arg5)) l h b j := by
  rw [v3_eq, V_main_arg0, V_main_arg1, V_main_arg5]
  exact funext fun d => rcol_args _ _ _ _ l h b j d

theorem rcolN_k (c : Dev nD) (l : Fin 8) (h : Fin 4) (b : Fin 12) (j : Fin 3202) :
    rcolN (V m c main_arg0) (V m c main_arg1) (V m c main_v1) (V m c main_arg3) (V m c main_arg6) l h b j
      = Spec.colN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) l h b j := by
  unfold rcolN Spec.colN
  rw [V_main_arg6, rcol_k]
  rfl

/-! ## The host's transposes of the four arrays -/

theorem codes_at (f : Vec Ideal S12x3202x8x4x160 .fp8e4m3) (v : Fin 8 → Fin 4 → Fin 12 → Fin 3202 → Fin 160 → EReal)
    (hf : ∀ l b h d j, f (ix5 b j l h d) = Spec.code (v l h b j) d) :
    (transpose S8x12x3202x4x160 [2, 0, 1, 3, 4] f transposes_S12x3202x8x4x160_S8x12x3202x4x160_2_0_1_3_4) = Spec.codes v := by
  funext y
  rw [show y = ix5 (y 0) (y 1) (y 2) (y 3) (y 4) from (ix5_eta y).symm]
  unfold Spec.codes
  pointwise
  exact hf _ _ _ _ _

theorem scales_at (f : Vec Ideal S12x3202x8x4x1 .f32) (v : Fin 8 → Fin 4 → Fin 12 → Fin 3202 → Fin 160 → EReal)
    (hf : ∀ l b h j, f (ix5 b j l h (0 : Fin 1)) = Spec.scale (v l h b j)) :
    (transpose S8x12x3202x4 [2, 0, 1, 3] (shapeCast S12x3202x8x4 f shapeCasts_S12x3202x8x4x1_S12x3202x8x4) transposes_S12x3202x8x4_S8x12x3202x4_2_0_1_3) = Spec.scales v := by
  funext y
  rw [show y = ix4 (y 0) (y 1) (y 2) (y 3) from (ix4_eta y).symm]
  unfold Spec.scales
  pointwise
  exact hf _ _ _ _

set_option backward.isDefEq.respectTransparency.types false in
theorem result7 (c : Dev nD) : Pipeline.afterTail₀ cfgs (dats m) 0 (V0 m) [hostOps1] c main_v5
    = Spec.codes (Spec.colN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))) := by
  unfold Pipeline.afterTail₀
  simp only [List.flatten_cons, List.flatten_nil, List.append_nil]
  after_results
  exact (congrArg (fun a : Vec Ideal S12x3202x8x4x160 .fp8e4m3 => transpose S8x12x3202x4x160 [2, 0, 1, 3, 4] a transposes_S12x3202x8x4x160_S8x12x3202x4x160_2_0_1_3_4)
    ((Pipeline.withArrays_arr spec0 winFacts0.arr_inj c (V0 m c) (fun w => (dats m 0 c).arrAt w cfg0.N) 7).trans ((arr_7 m c).trans (out7_eq ..)))).trans
    (codes_at _ (Spec.colN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))) fun l b h d j =>
      (pay6_apply _ _ _ _ _ l h b j d).trans (congrArg (Spec.code · d) (rcolN_k m c l h b j)))

set_option backward.isDefEq.respectTransparency.types false in
theorem result8 (c : Dev nD) : Pipeline.afterTail₀ cfgs (dats m) 0 (V0 m) [hostOps1] c main_v7
    = Spec.scales (Spec.colN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))) := by
  unfold Pipeline.afterTail₀
  simp only [List.flatten_cons, List.flatten_nil, List.append_nil]
  after_results
  exact (congrArg (fun a : Vec Ideal S12x3202x8x4x1 .f32 => transpose S8x12x3202x4 [2, 0, 1, 3] (shapeCast S12x3202x8x4 a shapeCasts_S12x3202x8x4x1_S12x3202x8x4) transposes_S12x3202x8x4_S8x12x3202x4_2_0_1_3)
    ((Pipeline.withArrays_arr spec0 winFacts0.arr_inj c (V0 m c) (fun w => (dats m 0 c).arrAt w cfg0.N) 8).trans ((arr_8 m c).trans (out8_eq ..)))).trans
    (scales_at _ (Spec.colN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))) fun l b h j =>
      (pay7_apply _ _ _ _ _ l h b j).trans (congrArg Spec.scale (rcolN_k m c l h b j)))

set_option backward.isDefEq.respectTransparency.types false in
theorem result9 (c : Dev nD) : Pipeline.afterTail₀ cfgs (dats m) 0 (V0 m) [hostOps1] c main_v8
    = Spec.codes (Spec.col (m ((c.tc : Thread nD τ).loc main_arg0)) (m ((c.tc : Thread nD τ).loc main_arg1)) (m ((c.tc : Thread nD τ).loc main_arg4)) (m ((c.tc : Thread nD τ).loc main_arg5))) := by
  unfold Pipeline.afterTail₀
  simp only [List.flatten_cons, List.flatten_nil, List.append_nil]
  after_results
  exact (congrArg (fun a : Vec Ideal S12x3202x8x4x160 .fp8e4m3 => transpose S8x12x3202x4x160 [2, 0, 1, 3, 4] a transposes_S12x3202x8x4x160_S8x12x3202x4x160_2_0_1_3_4)
    ((Pipeline.withArrays_arr spec0 winFacts0.arr_inj c (V0 m c) (fun w => (dats m 0 c).arrAt w cfg0.N) 9).trans ((arr_9 m c).trans (out9_eq ..)))).trans
    (codes_at _ (Spec.col (m ((c.tc : Thread nD τ).loc main_arg0)) (m ((c.tc : Thread nD τ).loc main_arg1)) (m ((c.tc : Thread nD τ).loc main_arg4)) (m ((c.tc : Thread nD τ).loc main_arg5))) fun l b h d j =>
      (pay12_apply _ _ _ _ l h b j d).trans (congrArg (Spec.code · d) (rcol_v m c l h b j)))

set_option backward.isDefEq.respectTransparency.types false in
theorem result10 (c : Dev nD) : Pipeline.afterTail₀ cfgs (dats m) 0 (V0 m) [hostOps1] c main_v10
    = Spec.scales (Spec.col (m ((c.tc : Thread nD τ).loc main_arg0)) (m ((c.tc : Thread nD τ).loc main_arg1)) (m ((c.tc : Thread nD τ).loc main_arg4)) (m ((c.tc : Thread nD τ).loc main_arg5))) := by
  unfold Pipeline.afterTail₀
  simp only [List.flatten_cons, List.flatten_nil, List.append_nil]
  after_results
  exact (congrArg (fun a : Vec Ideal S12x3202x8x4x1 .f32 => transpose S8x12x3202x4 [2, 0, 1, 3] (shapeCast S12x3202x8x4 a shapeCasts_S12x3202x8x4x1_S12x3202x8x4) transposes_S12x3202x8x4_S8x12x3202x4_2_0_1_3)
    ((Pipeline.withArrays_arr spec0 winFacts0.arr_inj c (V0 m c) (fun w => (dats m 0 c).arrAt w cfg0.N) 10).trans ((arr_10 m c).trans (out10_eq ..)))).trans
    (scales_at _ (Spec.col (m ((c.tc : Thread nD τ).loc main_arg0)) (m ((c.tc : Thread nD τ).loc main_arg1)) (m ((c.tc : Thread nD τ).loc main_arg4)) (m ((c.tc : Thread nD τ).loc main_arg5))) fun l b h j =>
      (pay13_apply _ _ _ _ l h b j).trans (congrArg Spec.scale (rcol_v m c l h b j)))

set_option backward.isDefEq.respectTransparency.types false in
/-- The run with its results named: the four arrays are the codes and scales of the projections' columns, and the
arguments are as launched. -/
theorem results : θ_run defs (onTc (τ := τ) (main (F := Ideal))) ⟨m, fun _ => 0, ρ⟩ (fun r => ∀ c : Dev nD,
      r.2.mem ((c.tc : Thread nD τ).loc main_v5) = Spec.codes (Spec.colN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)))
      ∧ r.2.mem ((c.tc : Thread nD τ).loc main_v7) = Spec.scales (Spec.colN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)))
      ∧ r.2.mem ((c.tc : Thread nD τ).loc main_v8) = Spec.codes (Spec.col (m ((c.tc : Thread nD τ).loc main_arg0)) (m ((c.tc : Thread nD τ).loc main_arg1)) (m ((c.tc : Thread nD τ).loc main_arg4)) (m ((c.tc : Thread nD τ).loc main_arg5)))
      ∧ r.2.mem ((c.tc : Thread nD τ).loc main_v10) = Spec.scales (Spec.col (m ((c.tc : Thread nD τ).loc main_arg0)) (m ((c.tc : Thread nD τ).loc main_arg1)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine θ_run_mono (θ_run_and (Gen.run_main m ρ) (Gen.frame m ρ)) fun r h c => ?_
  exact ⟨((h.1 c).2 main_v5 (Pipeline.mem_restRefs_of main_v5 (by decide) (by decide))).trans (result7 m c),
    ((h.1 c).2 main_v7 (Pipeline.mem_restRefs_of main_v7 (by decide) (by decide))).trans (result8 m c),
    ((h.1 c).2 main_v8 (Pipeline.mem_restRefs_of main_v8 (by decide) (by decide))).trans (result9 m c),
    ((h.1 c).2 main_v10 (Pipeline.mem_restRefs_of main_v10 (by decide) (by decide))).trans (result10 m c),
    h.2.1 c⟩

end Cert.ReferenceIdeal.Exact

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KFrameRun
public import proofs.«01_k».proof.Proof.KIFrameRun
public import proofs.«01_k».proof.Proof.KIResult
public import proofs.«01_k».proof.Proof.RIResult
public import Idealize.ShloMosaic.Adequacy
public import Idealize.ShloMosaic.Init

@[expose] public section

noncomputable section

namespace Cert.Proof

open Idealize.ShloMosaic Idealize.SL.Sem Cert.Kernel

/-- Both programs leave the codes and the scales of the same columns: each one's run names its four arrays from its own
arguments, and the arguments agree. -/
theorem algebraic : Cert.algebraic_KernelIdeal_ReferenceIdeal
    (hKernelIdeal := Cert.KernelIdeal.Gen.facts) (hReferenceIdeal := Cert.ReferenceIdeal.Gen.facts) := by
  intro m g m' g' _ hagree
  refine ⟨fun c => Spec.codes (Spec.colN (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6))),
    fun c => Spec.scales (Spec.colN (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6))),
    fun c => Spec.codes (Spec.col (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))),
    fun c => Spec.scales (Spec.col (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))),
    Cert.KernelIdeal.Exact.results m g, θ_run_mono (Cert.ReferenceIdeal.Exact.results m' g') fun r h c => ?_⟩
  obtain ⟨a0, a1, a2, a3, a4, a5, a6⟩ := hagree c
  obtain ⟨h0, h1, h2, h3, hargs⟩ := h c
  rw [a0, a1, a2, a3, a6] at h0 h1
  rw [a0, a1, a4, a5] at h2 h3
  exact ⟨h0, h1, h2, h3, hargs⟩

theorem claim : Cert.Claim := ⟨Cert.Kernel.Gen.facts, Cert.KernelIdeal.Gen.facts, Cert.ReferenceIdeal.Gen.facts,
  fun m g _ => Cert.Kernel.Own.frame m g, fun m g _ => Cert.KernelIdeal.Own.frame m g, fun m g _ => Cert.ReferenceIdeal.Gen.frame m g, trivial, algebraic⟩

end Cert.Proof

end
